-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x1024 : Shape := ⟨3, ![128, 1, 1024]⟩
abbrev S128 : Shape := ⟨1, ![128]⟩
abbrev S2x128x1024 : Shape := ⟨3, ![2, 128, 1024]⟩
abbrev S4096x1024 : Shape := ⟨2, ![4096, 1024]⟩
abbrev S4096 : Shape := ⟨1, ![4096]⟩
abbrev S128x1024 : Shape := ⟨2, ![128, 1024]⟩
abbrev S1x4096 : Shape := ⟨2, ![1, 4096]⟩
abbrev S2x4096 : Shape := ⟨2, ![2, 4096]⟩
abbrev S_ : Shape := ⟨0, ![]⟩
abbrev S128x1 : Shape := ⟨2, ![128, 1]⟩
abbrev S4x2x512x1024 : Shape := ⟨4, ![4, 2, 512, 1024]⟩
abbrev S4x2 : Shape := ⟨2, ![4, 2]⟩
abbrev S3 : Shape := ⟨1, ![3]⟩
abbrev S1x1 : Shape := ⟨2, ![1, 1]⟩
abbrev S1x1x512x1024 : Shape := ⟨4, ![1, 1, 512, 1024]⟩
abbrev S512x1024 : Shape := ⟨2, ![512, 1024]⟩
abbrev S1x128x1024 : Shape := ⟨3, ![1, 128, 1024]⟩
abbrev S512x128 : Shape := ⟨2, ![512, 128]⟩
abbrev S128x512 : Shape := ⟨2, ![128, 512]⟩
abbrev S1x512 : Shape := ⟨2, ![1, 512]⟩
abbrev S512 : Shape := ⟨1, ![512]⟩
abbrev S1x128x512 : Shape := ⟨3, ![1, 128, 512]⟩
abbrev S1 : Shape := ⟨1, ![1]⟩

abbrev nBuf : Space → Nat
  | .hbm => 27
  | .vmem => 13
  | .smem => 0
  | _ => 0

abbrev bufTy : (tb : Table) → Fin (tcTables nBuf tb) → BufTy
  | .hbm, ⟨0, _⟩ => ⟨S128x1x1024, .f32⟩
  | .hbm, ⟨1, _⟩ => ⟨S128, .i32⟩
  | .hbm, ⟨2, _⟩ => ⟨S2x128x1024, .f32⟩
  | .hbm, ⟨3, _⟩ => ⟨S2x128x1024, .f32⟩
  | .hbm, ⟨4, _⟩ => ⟨S4096x1024, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S4096x1024, .f32⟩
  | .hbm, ⟨9, _⟩ => ⟨S4096x1024, .f32⟩
  | .hbm, ⟨10, _⟩ => ⟨S4096, .f32⟩
  | .hbm, ⟨11, _⟩ => ⟨S4096, .f32⟩
  | .hbm, ⟨12, _⟩ => ⟨S128x1024, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S1x4096, .f32⟩
  | .hbm, ⟨17, _⟩ => ⟨S2x4096, .f32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .f32⟩
  | .hbm, ⟨22, _⟩ => ⟨S128x1, .f32⟩
  | .hbm, ⟨23, _⟩ => ⟨S128x1024, .f32⟩
  | .hbm, ⟨24, _⟩ => ⟨S2x128x1024, .f32⟩
  | .hbm, ⟨25, _⟩ => ⟨S2x128x1024, .f32⟩
  | .hbm, ⟨26, _⟩ => ⟨S128x1x1024, .f32⟩
  | .local _ .vmem, ⟨0, _⟩ => ⟨S128x1024, .f32⟩
  | .local _ .vmem, ⟨1, _⟩ => ⟨S128x1, .f32⟩
  | .local _ .vmem, ⟨2, _⟩ => ⟨S2x128x1024, .f32⟩
  | .local _ .vmem, ⟨3, _⟩ => ⟨S2x128x1024, .f32⟩
  | .local _ .vmem, ⟨4, _⟩ => ⟨S2x4096, .f32⟩
  | .local _ .vmem, ⟨5, _⟩ => ⟨S4x2x512x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S2x128x1024, .f32⟩
  | .local _ .vmem, ⟨11, _⟩ => ⟨S2x128x1024, .f32⟩
  | .local _ .vmem, ⟨12, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v11 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_cond1 : BitVec 1 :=
  let c0_i32 : BitVec 32 := 0#32
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c8_i32 : BitVec 32 := 8#32
  let c0_i32_2 : BitVec 32 := 0#32
  let v6 : BitVec 1 := Scalar.cmpi .sgt c8_i32 c0_i32_2
  let v7 : BitVec 32 := Scalar.extui v6
  let c0_i32_3 : BitVec 32 := 0#32
  let v8 : BitVec 1 := Scalar.cmpi .slt c8_i32 c0_i32_3
  let v9 : BitVec 32 := Scalar.extui v8
  let v10 : BitVec 32 := Scalar.subi v7 v9
  let v11 : BitVec 1 := Scalar.cmpi .ne v5 v10
  let v12 : BitVec 32 := Scalar.remsi c0_i32 c8_i32
  let c0_i32_4 : BitVec 32 := 0#32
  let v13 : BitVec 1 := Scalar.cmpi .ne v12 c0_i32_4
  let v14 : BitVec 1 := Scalar.andi v11 v13
  let v0 : BitVec 32 := Scalar.divsi c0_i32 c8_i32
  let c1_i32 : BitVec 32 := 1#32
  let v15 : BitVec 32 := Scalar.subi v0 c1_i32
  let v16 : BitVec 32 := Scalar.select v14 v15 v0
  let c0_i32_7 : BitVec 32 := 0#32
  let v20 : BitVec 1 := Scalar.cmpi .eq v16 c0_i32_7
  let v21 : BitVec 32 := Scalar.extui v20
  let c0_i32_9 : BitVec 32 := 0#32
  let v22 : BitVec 1 := Scalar.cmpi .ne v21 c0_i32_9
  v22

def k0_off1 : Fin 2 → Nat :=
  let c0_i32_6 : BitVec 32 := 0#32
  let c0_i32 : BitVec 32 := 0#32
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c8_i32 : BitVec 32 := 8#32
  let c0_i32_2 : BitVec 32 := 0#32
  let v6 : BitVec 1 := Scalar.cmpi .sgt c8_i32 c0_i32_2
  let v7 : BitVec 32 := Scalar.extui v6
  let c0_i32_3 : BitVec 32 := 0#32
  let v8 : BitVec 1 := Scalar.cmpi .slt c8_i32 c0_i32_3
  let v9 : BitVec 32 := Scalar.extui v8
  let v10 : BitVec 32 := Scalar.subi v7 v9
  let v11 : BitVec 1 := Scalar.cmpi .ne v5 v10
  let v12 : BitVec 32 := Scalar.remsi c0_i32 c8_i32
  let c0_i32_4 : BitVec 32 := 0#32
  let v13 : BitVec 1 := Scalar.cmpi .ne v12 c0_i32_4
  let v14 : BitVec 1 := Scalar.andi v11 v13
  let v0 : BitVec 32 := Scalar.divsi c0_i32 c8_i32
  let c1_i32 : BitVec 32 := 1#32
  let v15 : BitVec 32 := Scalar.subi v0 c1_i32
  let v16 : BitVec 32 := Scalar.select v14 v15 v0
  let c8_i32_5 : BitVec 32 := 8#32
  let v17 : BitVec 32 := Scalar.muli v16 c8_i32_5
  let v18 : BitVec 32 := Scalar.subi c0_i32_6 v17
  let c512_i32 : BitVec 32 := 512#32
  let v19 : BitVec 32 := Scalar.muli v18 c512_i32
  let c0_i32_135 : BitVec 32 := 0#32
  ![v19.toNat, 0]
def k0_cond2 : BitVec 1 :=
  let c0_i32 : BitVec 32 := 0#32
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c8_i32 : BitVec 32 := 8#32
  let c0_i32_2 : BitVec 32 := 0#32
  let v6 : BitVec 1 := Scalar.cmpi .sgt c8_i32 c0_i32_2
  let v7 : BitVec 32 := Scalar.extui v6
  let c0_i32_3 : BitVec 32 := 0#32
  let v8 : BitVec 1 := Scalar.cmpi .slt c8_i32 c0_i32_3
  let v9 : BitVec 32 := Scalar.extui v8
  let v10 : BitVec 32 := Scalar.subi v7 v9
  let v11 : BitVec 1 := Scalar.cmpi .ne v5 v10
  let v12 : BitVec 32 := Scalar.remsi c0_i32 c8_i32
  let c0_i32_4 : BitVec 32 := 0#32
  let v13 : BitVec 1 := Scalar.cmpi .ne v12 c0_i32_4
  let v14 : BitVec 1 := Scalar.andi v11 v13
  let v0 : BitVec 32 := Scalar.divsi c0_i32 c8_i32
  let c1_i32 : BitVec 32 := 1#32
  let v15 : BitVec 32 := Scalar.subi v0 c1_i32
  let v16 : BitVec 32 := Scalar.select v14 v15 v0
  let c1_i32_10 : BitVec 32 := 1#32
  let v23 : BitVec 1 := Scalar.cmpi .eq v16 c1_i32_10
  let v24 : BitVec 32 := Scalar.extui v23
  let c0_i32_12 : BitVec 32 := 0#32
  let v25 : BitVec 1 := Scalar.cmpi .ne v24 c0_i32_12
  v25

def k0_off2 : Fin 2 → Nat :=
  let c0_i32_6 : BitVec 32 := 0#32
  let c0_i32 : BitVec 32 := 0#32
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c8_i32 : BitVec 32 := 8#32
  let c0_i32_2 : BitVec 32 := 0#32
  let v6 : BitVec 1 := Scalar.cmpi .sgt c8_i32 c0_i32_2
  let v7 : BitVec 32 := Scalar.extui v6
  let c0_i32_3 : BitVec 32 := 0#32
  let v8 : BitVec 1 := Scalar.cmpi .slt c8_i32 c0_i32_3
  let v9 : BitVec 32 := Scalar.extui v8
  let v10 : BitVec 32 := Scalar.subi v7 v9
  let v11 : BitVec 1 := Scalar.cmpi .ne v5 v10
  let v12 : BitVec 32 := Scalar.remsi c0_i32 c8_i32
  let c0_i32_4 : BitVec 32 := 0#32
  let v13 : BitVec 1 := Scalar.cmpi .ne v12 c0_i32_4
  let v14 : BitVec 1 := Scalar.andi v11 v13
  let v0 : BitVec 32 := Scalar.divsi c0_i32 c8_i32
  let c1_i32 : BitVec 32 := 1#32
  let v15 : BitVec 32 := Scalar.subi v0 c1_i32
  let v16 : BitVec 32 := Scalar.select v14 v15 v0
  let c8_i32_5 : BitVec 32 := 8#32
  let v17 : BitVec 32 := Scalar.muli v16 c8_i32_5
  let v18 : BitVec 32 := Scalar.subi c0_i32_6 v17
  let c512_i32 : BitVec 32 := 512#32
  let v19 : BitVec 32 := Scalar.muli v18 c512_i32
  let c0_i32_135 : BitVec 32 := 0#32
  ![v19.toNat, 0]
def k0_cond3 : BitVec 1 :=
  let c1_i32_13 : BitVec 32 := 1#32
  let c0_i32_15 : BitVec 32 := 0#32
  let v27 : BitVec 1 := Scalar.cmpi .sgt c1_i32_13 c0_i32_15
  let v28 : BitVec 32 := Scalar.extui v27
  let c0_i32_16 : BitVec 32 := 0#32
  let v29 : BitVec 1 := Scalar.cmpi .slt c1_i32_13 c0_i32_16
  let v30 : BitVec 32 := Scalar.extui v29
  let v31 : BitVec 32 := Scalar.subi v28 v30
  let c8_i32_14 : BitVec 32 := 8#32
  let c0_i32_17 : BitVec 32 := 0#32
  let v32 : BitVec 1 := Scalar.cmpi .sgt c8_i32_14 c0_i32_17
  let v33 : BitVec 32 := Scalar.extui v32
  let c0_i32_18 : BitVec 32 := 0#32
  let v34 : BitVec 1 := Scalar.cmpi .slt c8_i32_14 c0_i32_18
  let v35 : BitVec 32 := Scalar.extui v34
  let v36 : BitVec 32 := Scalar.subi v33 v35
  let v37 : BitVec 1 := Scalar.cmpi .ne v31 v36
  let v38 : BitVec 32 := Scalar.remsi c1_i32_13 c8_i32_14
  let c0_i32_19 : BitVec 32 := 0#32
  let v39 : BitVec 1 := Scalar.cmpi .ne v38 c0_i32_19
  let v40 : BitVec 1 := Scalar.andi v37 v39
  let v26 : BitVec 32 := Scalar.divsi c1_i32_13 c8_i32_14
  let c1_i32_20 : BitVec 32 := 1#32
  let v41 : BitVec 32 := Scalar.subi v26 c1_i32_20
  let v42 : BitVec 32 := Scalar.select v40 v41 v26
  let c0_i32_24 : BitVec 32 := 0#32
  let v46 : BitVec 1 := Scalar.cmpi .eq v42 c0_i32_24
  let v47 : BitVec 32 := Scalar.extui v46
  let c0_i32_26 : BitVec 32 := 0#32
  let v48 : BitVec 1 := Scalar.cmpi .ne v47 c0_i32_26
  v48

def k0_off3 : Fin 2 → Nat :=
  let c1_i32_22 : BitVec 32 := 1#32
  let c1_i32_13 : BitVec 32 := 1#32
  let c0_i32_15 : BitVec 32 := 0#32
  let v27 : BitVec 1 := Scalar.cmpi .sgt c1_i32_13 c0_i32_15
  let v28 : BitVec 32 := Scalar.extui v27
  let c0_i32_16 : BitVec 32 := 0#32
  let v29 : BitVec 1 := Scalar.cmpi .slt c1_i32_13 c0_i32_16
  let v30 : BitVec 32 := Scalar.extui v29
  let v31 : BitVec 32 := Scalar.subi v28 v30
  let c8_i32_14 : BitVec 32 := 8#32
  let c0_i32_17 : BitVec 32 := 0#32
  let v32 : BitVec 1 := Scalar.cmpi .sgt c8_i32_14 c0_i32_17
  let v33 : BitVec 32 := Scalar.extui v32
  let c0_i32_18 : BitVec 32 := 0#32
  let v34 : BitVec 1 := Scalar.cmpi .slt c8_i32_14 c0_i32_18
  let v35 : BitVec 32 := Scalar.extui v34
  let v36 : BitVec 32 := Scalar.subi v33 v35
  let v37 : BitVec 1 := Scalar.cmpi .ne v31 v36
  let v38 : BitVec 32 := Scalar.remsi c1_i32_13 c8_i32_14
  let c0_i32_19 : BitVec 32 := 0#32
  let v39 : BitVec 1 := Scalar.cmpi .ne v38 c0_i32_19
  let v40 : BitVec 1 := Scalar.andi v37 v39
  let v26 : BitVec 32 := Scalar.divsi c1_i32_13 c8_i32_14
  let c1_i32_20 : BitVec 32 := 1#32
  let v41 : BitVec 32 := Scalar.subi v26 c1_i32_20
  let v42 : BitVec 32 := Scalar.select v40 v41 v26
  let c8_i32_21 : BitVec 32 := 8#32
  let v43 : BitVec 32 := Scalar.muli v42 c8_i32_21
  let v44 : BitVec 32 := Scalar.subi c1_i32_22 v43
  let c512_i32_23 : BitVec 32 := 512#32
  let v45 : BitVec 32 := Scalar.muli v44 c512_i32_23
  let c0_i32_135 : BitVec 32 := 0#32
  ![v45.toNat, 0]
def k0_cond4 : BitVec 1 :=
  let c1_i32_13 : BitVec 32 := 1#32
  let c0_i32_15 : BitVec 32 := 0#32
  let v27 : BitVec 1 := Scalar.cmpi .sgt c1_i32_13 c0_i32_15
  let v28 : BitVec 32 := Scalar.extui v27
  let c0_i32_16 : BitVec 32 := 0#32
  let v29 : BitVec 1 := Scalar.cmpi .slt c1_i32_13 c0_i32_16
  let v30 : BitVec 32 := Scalar.extui v29
  let v31 : BitVec 32 := Scalar.subi v28 v30
  let c8_i32_14 : BitVec 32 := 8#32
  let c0_i32_17 : BitVec 32 := 0#32
  let v32 : BitVec 1 := Scalar.cmpi .sgt c8_i32_14 c0_i32_17
  let v33 : BitVec 32 := Scalar.extui v32
  let c0_i32_18 : BitVec 32 := 0#32
  let v34 : BitVec 1 := Scalar.cmpi .slt c8_i32_14 c0_i32_18
  let v35 : BitVec 32 := Scalar.extui v34
  let v36 : BitVec 32 := Scalar.subi v33 v35
  let v37 : BitVec 1 := Scalar.cmpi .ne v31 v36
  let v38 : BitVec 32 := Scalar.remsi c1_i32_13 c8_i32_14
  let c0_i32_19 : BitVec 32 := 0#32
  let v39 : BitVec 1 := Scalar.cmpi .ne v38 c0_i32_19
  let v40 : BitVec 1 := Scalar.andi v37 v39
  let v26 : BitVec 32 := Scalar.divsi c1_i32_13 c8_i32_14
  let c1_i32_20 : BitVec 32 := 1#32
  let v41 : BitVec 32 := Scalar.subi v26 c1_i32_20
  let v42 : BitVec 32 := Scalar.select v40 v41 v26
  let c1_i32_27 : BitVec 32 := 1#32
  let v49 : BitVec 1 := Scalar.cmpi .eq v42 c1_i32_27
  let v50 : BitVec 32 := Scalar.extui v49
  let c0_i32_29 : BitVec 32 := 0#32
  let v51 : BitVec 1 := Scalar.cmpi .ne v50 c0_i32_29
  v51

def k0_off4 : Fin 2 → Nat :=
  let c1_i32_22 : BitVec 32 := 1#32
  let c1_i32_13 : BitVec 32 := 1#32
  let c0_i32_15 : BitVec 32 := 0#32
  let v27 : BitVec 1 := Scalar.cmpi .sgt c1_i32_13 c0_i32_15
  let v28 : BitVec 32 := Scalar.extui v27
  let c0_i32_16 : BitVec 32 := 0#32
  let v29 : BitVec 1 := Scalar.cmpi .slt c1_i32_13 c0_i32_16
  let v30 : BitVec 32 := Scalar.extui v29
  let v31 : BitVec 32 := Scalar.subi v28 v30
  let c8_i32_14 : BitVec 32 := 8#32
  let c0_i32_17 : BitVec 32 := 0#32
  let v32 : BitVec 1 := Scalar.cmpi .sgt c8_i32_14 c0_i32_17
  let v33 : BitVec 32 := Scalar.extui v32
  let c0_i32_18 : BitVec 32 := 0#32
  let v34 : BitVec 1 := Scalar.cmpi .slt c8_i32_14 c0_i32_18
  let v35 : BitVec 32 := Scalar.extui v34
  let v36 : BitVec 32 := Scalar.subi v33 v35
  let v37 : BitVec 1 := Scalar.cmpi .ne v31 v36
  let v38 : BitVec 32 := Scalar.remsi c1_i32_13 c8_i32_14
  let c0_i32_19 : BitVec 32 := 0#32
  let v39 : BitVec 1 := Scalar.cmpi .ne v38 c0_i32_19
  let v40 : BitVec 1 := Scalar.andi v37 v39
  let v26 : BitVec 32 := Scalar.divsi c1_i32_13 c8_i32_14
  let c1_i32_20 : BitVec 32 := 1#32
  let v41 : BitVec 32 := Scalar.subi v26 c1_i32_20
  let v42 : BitVec 32 := Scalar.select v40 v41 v26
  let c8_i32_21 : BitVec 32 := 8#32
  let v43 : BitVec 32 := Scalar.muli v42 c8_i32_21
  let v44 : BitVec 32 := Scalar.subi c1_i32_22 v43
  let c512_i32_23 : BitVec 32 := 512#32
  let v45 : BitVec 32 := Scalar.muli v44 c512_i32_23
  let c0_i32_135 : BitVec 32 := 0#32
  ![v45.toNat, 0]
def k0_cond5 : BitVec 1 :=
  let c2_i32 : BitVec 32 := 2#32
  let c0_i32_31 : BitVec 32 := 0#32
  let v53 : BitVec 1 := Scalar.cmpi .sgt c2_i32 c0_i32_31
  let v54 : BitVec 32 := Scalar.extui v53
  let c0_i32_32 : BitVec 32 := 0#32
  let v55 : BitVec 1 := Scalar.cmpi .slt c2_i32 c0_i32_32
  let v56 : BitVec 32 := Scalar.extui v55
  let v57 : BitVec 32 := Scalar.subi v54 v56
  let c8_i32_30 : BitVec 32 := 8#32
  let c0_i32_33 : BitVec 32 := 0#32
  let v58 : BitVec 1 := Scalar.cmpi .sgt c8_i32_30 c0_i32_33
  let v59 : BitVec 32 := Scalar.extui v58
  let c0_i32_34 : BitVec 32 := 0#32
  let v60 : BitVec 1 := Scalar.cmpi .slt c8_i32_30 c0_i32_34
  let v61 : BitVec 32 := Scalar.extui v60
  let v62 : BitVec 32 := Scalar.subi v59 v61
  let v63 : BitVec 1 := Scalar.cmpi .ne v57 v62
  let v64 : BitVec 32 := Scalar.remsi c2_i32 c8_i32_30
  let c0_i32_35 : BitVec 32 := 0#32
  let v65 : BitVec 1 := Scalar.cmpi .ne v64 c0_i32_35
  let v66 : BitVec 1 := Scalar.andi v63 v65
  let v52 : BitVec 32 := Scalar.divsi c2_i32 c8_i32_30
  let c1_i32_36 : BitVec 32 := 1#32
  let v67 : BitVec 32 := Scalar.subi v52 c1_i32_36
  let v68 : BitVec 32 := Scalar.select v66 v67 v52
  let c0_i32_40 : BitVec 32 := 0#32
  let v72 : BitVec 1 := Scalar.cmpi .eq v68 c0_i32_40
  let v73 : BitVec 32 := Scalar.extui v72
  let c0_i32_42 : BitVec 32 := 0#32
  let v74 : BitVec 1 := Scalar.cmpi .ne v73 c0_i32_42
  v74

def k0_off5 : Fin 2 → Nat :=
  let c2_i32_38 : BitVec 32 := 2#32
  let c2_i32 : BitVec 32 := 2#32
  let c0_i32_31 : BitVec 32 := 0#32
  let v53 : BitVec 1 := Scalar.cmpi .sgt c2_i32 c0_i32_31
  let v54 : BitVec 32 := Scalar.extui v53
  let c0_i32_32 : BitVec 32 := 0#32
  let v55 : BitVec 1 := Scalar.cmpi .slt c2_i32 c0_i32_32
  let v56 : BitVec 32 := Scalar.extui v55
  let v57 : BitVec 32 := Scalar.subi v54 v56
  let c8_i32_30 : BitVec 32 := 8#32
  let c0_i32_33 : BitVec 32 := 0#32
  let v58 : BitVec 1 := Scalar.cmpi .sgt c8_i32_30 c0_i32_33
  let v59 : BitVec 32 := Scalar.extui v58
  let c0_i32_34 : BitVec 32 := 0#32
  let v60 : BitVec 1 := Scalar.cmpi .slt c8_i32_30 c0_i32_34
  let v61 : BitVec 32 := Scalar.extui v60
  let v62 : BitVec 32 := Scalar.subi v59 v61
  let v63 : BitVec 1 := Scalar.cmpi .ne v57 v62
  let v64 : BitVec 32 := Scalar.remsi c2_i32 c8_i32_30
  let c0_i32_35 : BitVec 32 := 0#32
  let v65 : BitVec 1 := Scalar.cmpi .ne v64 c0_i32_35
  let v66 : BitVec 1 := Scalar.andi v63 v65
  let v52 : BitVec 32 := Scalar.divsi c2_i32 c8_i32_30
  let c1_i32_36 : BitVec 32 := 1#32
  let v67 : BitVec 32 := Scalar.subi v52 c1_i32_36
  let v68 : BitVec 32 := Scalar.select v66 v67 v52
  let c8_i32_37 : BitVec 32 := 8#32
  let v69 : BitVec 32 := Scalar.muli v68 c8_i32_37
  let v70 : BitVec 32 := Scalar.subi c2_i32_38 v69
  let c512_i32_39 : BitVec 32 := 512#32
  let v71 : BitVec 32 := Scalar.muli v70 c512_i32_39
  let c0_i32_135 : BitVec 32 := 0#32
  ![v71.toNat, 0]
def k0_cond6 : BitVec 1 :=
  let c2_i32 : BitVec 32 := 2#32
  let c0_i32_31 : BitVec 32 := 0#32
  let v53 : BitVec 1 := Scalar.cmpi .sgt c2_i32 c0_i32_31
  let v54 : BitVec 32 := Scalar.extui v53
  let c0_i32_32 : BitVec 32 := 0#32
  let v55 : BitVec 1 := Scalar.cmpi .slt c2_i32 c0_i32_32
  let v56 : BitVec 32 := Scalar.extui v55
  let v57 : BitVec 32 := Scalar.subi v54 v56
  let c8_i32_30 : BitVec 32 := 8#32
  let c0_i32_33 : BitVec 32 := 0#32
  let v58 : BitVec 1 := Scalar.cmpi .sgt c8_i32_30 c0_i32_33
  let v59 : BitVec 32 := Scalar.extui v58
  let c0_i32_34 : BitVec 32 := 0#32
  let v60 : BitVec 1 := Scalar.cmpi .slt c8_i32_30 c0_i32_34
  let v61 : BitVec 32 := Scalar.extui v60
  let v62 : BitVec 32 := Scalar.subi v59 v61
  let v63 : BitVec 1 := Scalar.cmpi .ne v57 v62
  let v64 : BitVec 32 := Scalar.remsi c2_i32 c8_i32_30
  let c0_i32_35 : BitVec 32 := 0#32
  let v65 : BitVec 1 := Scalar.cmpi .ne v64 c0_i32_35
  let v66 : BitVec 1 := Scalar.andi v63 v65
  let v52 : BitVec 32 := Scalar.divsi c2_i32 c8_i32_30
  let c1_i32_36 : BitVec 32 := 1#32
  let v67 : BitVec 32 := Scalar.subi v52 c1_i32_36
  let v68 : BitVec 32 := Scalar.select v66 v67 v52
  let c1_i32_43 : BitVec 32 := 1#32
  let v75 : BitVec 1 := Scalar.cmpi .eq v68 c1_i32_43
  let v76 : BitVec 32 := Scalar.extui v75
  let c0_i32_45 : BitVec 32 := 0#32
  let v77 : BitVec 1 := Scalar.cmpi .ne v76 c0_i32_45
  v77

def k0_off6 : Fin 2 → Nat :=
  let c2_i32_38 : BitVec 32 := 2#32
  let c2_i32 : BitVec 32 := 2#32
  let c0_i32_31 : BitVec 32 := 0#32
  let v53 : BitVec 1 := Scalar.cmpi .sgt c2_i32 c0_i32_31
  let v54 : BitVec 32 := Scalar.extui v53
  let c0_i32_32 : BitVec 32 := 0#32
  let v55 : BitVec 1 := Scalar.cmpi .slt c2_i32 c0_i32_32
  let v56 : BitVec 32 := Scalar.extui v55
  let v57 : BitVec 32 := Scalar.subi v54 v56
  let c8_i32_30 : BitVec 32 := 8#32
  let c0_i32_33 : BitVec 32 := 0#32
  let v58 : BitVec 1 := Scalar.cmpi .sgt c8_i32_30 c0_i32_33
  let v59 : BitVec 32 := Scalar.extui v58
  let c0_i32_34 : BitVec 32 := 0#32
  let v60 : BitVec 1 := Scalar.cmpi .slt c8_i32_30 c0_i32_34
  let v61 : BitVec 32 := Scalar.extui v60
  let v62 : BitVec 32 := Scalar.subi v59 v61
  let v63 : BitVec 1 := Scalar.cmpi .ne v57 v62
  let v64 : BitVec 32 := Scalar.remsi c2_i32 c8_i32_30
  let c0_i32_35 : BitVec 32 := 0#32
  let v65 : BitVec 1 := Scalar.cmpi .ne v64 c0_i32_35
  let v66 : BitVec 1 := Scalar.andi v63 v65
  let v52 : BitVec 32 := Scalar.divsi c2_i32 c8_i32_30
  let c1_i32_36 : BitVec 32 := 1#32
  let v67 : BitVec 32 := Scalar.subi v52 c1_i32_36
  let v68 : BitVec 32 := Scalar.select v66 v67 v52
  let c8_i32_37 : BitVec 32 := 8#32
  let v69 : BitVec 32 := Scalar.muli v68 c8_i32_37
  let v70 : BitVec 32 := Scalar.subi c2_i32_38 v69
  let c512_i32_39 : BitVec 32 := 512#32
  let v71 : BitVec 32 := Scalar.muli v70 c512_i32_39
  let c0_i32_135 : BitVec 32 := 0#32
  ![v71.toNat, 0]
def k0_cond7 : BitVec 1 :=
  let c3_i32 : BitVec 32 := 3#32
  let c0_i32_47 : BitVec 32 := 0#32
  let v79 : BitVec 1 := Scalar.cmpi .sgt c3_i32 c0_i32_47
  let v80 : BitVec 32 := Scalar.extui v79
  let c0_i32_48 : BitVec 32 := 0#32
  let v81 : BitVec 1 := Scalar.cmpi .slt c3_i32 c0_i32_48
  let v82 : BitVec 32 := Scalar.extui v81
  let v83 : BitVec 32 := Scalar.subi v80 v82
  let c8_i32_46 : BitVec 32 := 8#32
  let c0_i32_49 : BitVec 32 := 0#32
  let v84 : BitVec 1 := Scalar.cmpi .sgt c8_i32_46 c0_i32_49
  let v85 : BitVec 32 := Scalar.extui v84
  let c0_i32_50 : BitVec 32 := 0#32
  let v86 : BitVec 1 := Scalar.cmpi .slt c8_i32_46 c0_i32_50
  let v87 : BitVec 32 := Scalar.extui v86
  let v88 : BitVec 32 := Scalar.subi v85 v87
  let v89 : BitVec 1 := Scalar.cmpi .ne v83 v88
  let v90 : BitVec 32 := Scalar.remsi c3_i32 c8_i32_46
  let c0_i32_51 : BitVec 32 := 0#32
  let v91 : BitVec 1 := Scalar.cmpi .ne v90 c0_i32_51
  let v92 : BitVec 1 := Scalar.andi v89 v91
  let v78 : BitVec 32 := Scalar.divsi c3_i32 c8_i32_46
  let c1_i32_52 : BitVec 32 := 1#32
  let v93 : BitVec 32 := Scalar.subi v78 c1_i32_52
  let v94 : BitVec 32 := Scalar.select v92 v93 v78
  let c0_i32_56 : BitVec 32 := 0#32
  let v98 : BitVec 1 := Scalar.cmpi .eq v94 c0_i32_56
  let v99 : BitVec 32 := Scalar.extui v98
  let c0_i32_58 : BitVec 32 := 0#32
  let v100 : BitVec 1 := Scalar.cmpi .ne v99 c0_i32_58
  v100

def k0_off7 : Fin 2 → Nat :=
  let c3_i32_54 : BitVec 32 := 3#32
  let c3_i32 : BitVec 32 := 3#32
  let c0_i32_47 : BitVec 32 := 0#32
  let v79 : BitVec 1 := Scalar.cmpi .sgt c3_i32 c0_i32_47
  let v80 : BitVec 32 := Scalar.extui v79
  let c0_i32_48 : BitVec 32 := 0#32
  let v81 : BitVec 1 := Scalar.cmpi .slt c3_i32 c0_i32_48
  let v82 : BitVec 32 := Scalar.extui v81
  let v83 : BitVec 32 := Scalar.subi v80 v82
  let c8_i32_46 : BitVec 32 := 8#32
  let c0_i32_49 : BitVec 32 := 0#32
  let v84 : BitVec 1 := Scalar.cmpi .sgt c8_i32_46 c0_i32_49
  let v85 : BitVec 32 := Scalar.extui v84
  let c0_i32_50 : BitVec 32 := 0#32
  let v86 : BitVec 1 := Scalar.cmpi .slt c8_i32_46 c0_i32_50
  let v87 : BitVec 32 := Scalar.extui v86
  let v88 : BitVec 32 := Scalar.subi v85 v87
  let v89 : BitVec 1 := Scalar.cmpi .ne v83 v88
  let v90 : BitVec 32 := Scalar.remsi c3_i32 c8_i32_46
  let c0_i32_51 : BitVec 32 := 0#32
  let v91 : BitVec 1 := Scalar.cmpi .ne v90 c0_i32_51
  let v92 : BitVec 1 := Scalar.andi v89 v91
  let v78 : BitVec 32 := Scalar.divsi c3_i32 c8_i32_46
  let c1_i32_52 : BitVec 32 := 1#32
  let v93 : BitVec 32 := Scalar.subi v78 c1_i32_52
  let v94 : BitVec 32 := Scalar.select v92 v93 v78
  let c8_i32_53 : BitVec 32 := 8#32
  let v95 : BitVec 32 := Scalar.muli v94 c8_i32_53
  let v96 : BitVec 32 := Scalar.subi c3_i32_54 v95
  let c512_i32_55 : BitVec 32 := 512#32
  let v97 : BitVec 32 := Scalar.muli v96 c512_i32_55
  let c0_i32_135 : BitVec 32 := 0#32
  ![v97.toNat, 0]
def k0_cond8 : BitVec 1 :=
  let c3_i32 : BitVec 32 := 3#32
  let c0_i32_47 : BitVec 32 := 0#32
  let v79 : BitVec 1 := Scalar.cmpi .sgt c3_i32 c0_i32_47
  let v80 : BitVec 32 := Scalar.extui v79
  let c0_i32_48 : BitVec 32 := 0#32
  let v81 : BitVec 1 := Scalar.cmpi .slt c3_i32 c0_i32_48
  let v82 : BitVec 32 := Scalar.extui v81
  let v83 : BitVec 32 := Scalar.subi v80 v82
  let c8_i32_46 : BitVec 32 := 8#32
  let c0_i32_49 : BitVec 32 := 0#32
  let v84 : BitVec 1 := Scalar.cmpi .sgt c8_i32_46 c0_i32_49
  let v85 : BitVec 32 := Scalar.extui v84
  let c0_i32_50 : BitVec 32 := 0#32
  let v86 : BitVec 1 := Scalar.cmpi .slt c8_i32_46 c0_i32_50
  let v87 : BitVec 32 := Scalar.extui v86
  let v88 : BitVec 32 := Scalar.subi v85 v87
  let v89 : BitVec 1 := Scalar.cmpi .ne v83 v88
  let v90 : BitVec 32 := Scalar.remsi c3_i32 c8_i32_46
  let c0_i32_51 : BitVec 32 := 0#32
  let v91 : BitVec 1 := Scalar.cmpi .ne v90 c0_i32_51
  let v92 : BitVec 1 := Scalar.andi v89 v91
  let v78 : BitVec 32 := Scalar.divsi c3_i32 c8_i32_46
  let c1_i32_52 : BitVec 32 := 1#32
  let v93 : BitVec 32 := Scalar.subi v78 c1_i32_52
  let v94 : BitVec 32 := Scalar.select v92 v93 v78
  let c1_i32_59 : BitVec 32 := 1#32
  let v101 : BitVec 1 := Scalar.cmpi .eq v94 c1_i32_59
  let v102 : BitVec 32 := Scalar.extui v101
  let c0_i32_61 : BitVec 32 := 0#32
  let v103 : BitVec 1 := Scalar.cmpi .ne v102 c0_i32_61
  v103

def k0_off8 : Fin 2 → Nat :=
  let c3_i32_54 : BitVec 32 := 3#32
  let c3_i32 : BitVec 32 := 3#32
  let c0_i32_47 : BitVec 32 := 0#32
  let v79 : BitVec 1 := Scalar.cmpi .sgt c3_i32 c0_i32_47
  let v80 : BitVec 32 := Scalar.extui v79
  let c0_i32_48 : BitVec 32 := 0#32
  let v81 : BitVec 1 := Scalar.cmpi .slt c3_i32 c0_i32_48
  let v82 : BitVec 32 := Scalar.extui v81
  let v83 : BitVec 32 := Scalar.subi v80 v82
  let c8_i32_46 : BitVec 32 := 8#32
  let c0_i32_49 : BitVec 32 := 0#32
  let v84 : BitVec 1 := Scalar.cmpi .sgt c8_i32_46 c0_i32_49
  let v85 : BitVec 32 := Scalar.extui v84
  let c0_i32_50 : BitVec 32 := 0#32
  let v86 : BitVec 1 := Scalar.cmpi .slt c8_i32_46 c0_i32_50
  let v87 : BitVec 32 := Scalar.extui v86
  let v88 : BitVec 32 := Scalar.subi v85 v87
  let v89 : BitVec 1 := Scalar.cmpi .ne v83 v88
  let v90 : BitVec 32 := Scalar.remsi c3_i32 c8_i32_46
  let c0_i32_51 : BitVec 32 := 0#32
  let v91 : BitVec 1 := Scalar.cmpi .ne v90 c0_i32_51
  let v92 : BitVec 1 := Scalar.andi v89 v91
  let v78 : BitVec 32 := Scalar.divsi c3_i32 c8_i32_46
  let c1_i32_52 : BitVec 32 := 1#32
  let v93 : BitVec 32 := Scalar.subi v78 c1_i32_52
  let v94 : BitVec 32 := Scalar.select v92 v93 v78
  let c8_i32_53 : BitVec 32 := 8#32
  let v95 : BitVec 32 := Scalar.muli v94 c8_i32_53
  let v96 : BitVec 32 := Scalar.subi c3_i32_54 v95
  let c512_i32_55 : BitVec 32 := 512#32
  let v97 : BitVec 32 := Scalar.muli v96 c512_i32_55
  let c0_i32_135 : BitVec 32 := 0#32
  ![v97.toNat, 0]
@[reducible] def k0_t1_loop : Scf.Loop 32 :=
  let c0_i32_62 : BitVec 32 := 0#32
  let c16_i32 : BitVec 32 := 16#32
  let v104 : BitVec 32 := Scalar.addi c0_i32_62 c16_i32
  let c1_i32_63 : BitVec 32 := 1#32
  ⟨c0_i32_62, v104, c1_i32_63⟩
def k0_off9 (k0_t1 : Fin k0_t1_loop.trips) : Fin 2 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let c0_i32_149 : BitVec 32 := 0#32
  ![v161.toNat, 0]
def k0_off10 (k0_t1 : Fin k0_t1_loop.trips) : Fin 4 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let c0_i32_148 : BitVec 32 := 0#32
  let c0_i32_150 : BitVec 32 := 0#32
  let c0_i32_151 : BitVec 32 := 0#32
  ![v161.toNat, 0, 0, 0]
def k0_off11 (k0_t1 : Fin k0_t1_loop.trips) : Fin 2 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let c1_i32_155 : BitVec 32 := 1#32
  ![v161.toNat, 1]
def k0_off12 (k0_t1 : Fin k0_t1_loop.trips) : Fin 4 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let c1_i32_154 : BitVec 32 := 1#32
  let c0_i32_156 : BitVec 32 := 0#32
  let c0_i32_157 : BitVec 32 := 0#32
  ![v161.toNat, 1, 0, 0]
def k0_off13 (k0_t1 : Fin k0_t1_loop.trips) : Fin 3 → Nat :=
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let v211 : Index := Scalar.indexCast v178
  let c0 : Index := 0#32
  let c0_160 : Index := 0#32
  ![v211.toNat, 0, 0]
def k0_off14 (k0_t1 : Fin k0_t1_loop.trips) : Fin 4 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let v219 : Index := Scalar.indexCast v161
  let c0_166 : Index := 0#32
  let c0_167 : Index := 0#32
  let c0_168 : Index := 0#32
  ![v219.toNat, 0, 0, 0]
def k0_off15 (k0_t1 : Fin k0_t1_loop.trips) : Fin 4 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let v223 : Index := Scalar.indexCast v161
  let c1 : Index := 1#32
  let c0_169 : Index := 0#32
  let c0_170 : Index := 0#32
  ![v223.toNat, 1, 0, 0]
def k0_off16 (k0_t1 : Fin k0_t1_loop.trips) : Fin 2 → Nat :=
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let v231 : Index := Scalar.indexCast v178
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c1024_i32 : BitVec 32 := 1024#32
  let v229 : BitVec 32 := Scalar.muli v197 c1024_i32
  let c2_i32_146 : BitVec 32 := 2#32
  let v198 : BitVec 32 := Scalar.muli v197 c2_i32_146
  let v199 : BitVec 32 := Scalar.subi v180 v198
  let c512_i32_147 : BitVec 32 := 512#32
  let v200 : BitVec 32 := Scalar.muli v199 c512_i32_147
  let v230 : BitVec 32 := Scalar.addi v229 v200
  let v232 : Index := Scalar.indexCast v230
  ![v231.toNat, v232.toNat]
def k0_cond9 (k0_t1 : Fin k0_t1_loop.trips) : BitVec 1 :=
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c0_i32_175 : BitVec 32 := 0#32
  let v242 : BitVec 1 := Scalar.cmpi .eq v197 c0_i32_175
  let v243 : BitVec 32 := Scalar.extui v242
  let c0_i32_176 : BitVec 32 := 0#32
  let v244 : BitVec 1 := Scalar.cmpi .ne v243 c0_i32_176
  v244

def k0_off17 (k0_t1 : Fin k0_t1_loop.trips) : Fin 2 → Nat :=
  let c0_186 : Index := 0#32
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c2_i32_146 : BitVec 32 := 2#32
  let v198 : BitVec 32 := Scalar.muli v197 c2_i32_146
  let v199 : BitVec 32 := Scalar.subi v180 v198
  let c512_i32_147 : BitVec 32 := 512#32
  let v200 : BitVec 32 := Scalar.muli v199 c512_i32_147
  let v259 : Index := Scalar.indexCast v200
  ![0, v259.toNat]
def k0_cond10 (k0_t1 : Fin k0_t1_loop.trips) : BitVec 1 :=
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c1_i32_177 : BitVec 32 := 1#32
  let v245 : BitVec 1 := Scalar.cmpi .eq v197 c1_i32_177
  let v246 : BitVec 32 := Scalar.extui v245
  let c0_i32_178 : BitVec 32 := 0#32
  let v247 : BitVec 1 := Scalar.cmpi .ne v246 c0_i32_178
  v247

def k0_off18 (k0_t1 : Fin k0_t1_loop.trips) : Fin 2 → Nat :=
  let c0_186 : Index := 0#32
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c2_i32_146 : BitVec 32 := 2#32
  let v198 : BitVec 32 := Scalar.muli v197 c2_i32_146
  let v199 : BitVec 32 := Scalar.subi v180 v198
  let c512_i32_147 : BitVec 32 := 512#32
  let v200 : BitVec 32 := Scalar.muli v199 c512_i32_147
  let v259 : Index := Scalar.indexCast v200
  ![0, v259.toNat]
def k0_cond11 (k0_t1 : Fin k0_t1_loop.trips) : BitVec 1 :=
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c2_i32_179 : BitVec 32 := 2#32
  let v248 : BitVec 1 := Scalar.cmpi .eq v197 c2_i32_179
  let v249 : BitVec 32 := Scalar.extui v248
  let c0_i32_180 : BitVec 32 := 0#32
  let v250 : BitVec 1 := Scalar.cmpi .ne v249 c0_i32_180
  v250

def k0_off19 (k0_t1 : Fin k0_t1_loop.trips) : Fin 2 → Nat :=
  let c0_186 : Index := 0#32
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c2_i32_146 : BitVec 32 := 2#32
  let v198 : BitVec 32 := Scalar.muli v197 c2_i32_146
  let v199 : BitVec 32 := Scalar.subi v180 v198
  let c512_i32_147 : BitVec 32 := 512#32
  let v200 : BitVec 32 := Scalar.muli v199 c512_i32_147
  let v258 : Index := Scalar.indexCast v200
  ![0, v258.toNat]
def k0_off20 (k0_t1 : Fin k0_t1_loop.trips) : Fin 3 → Nat :=
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let v260 : Index := Scalar.indexCast v178
  let c0_187 : Index := 0#32
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c2_i32_146 : BitVec 32 := 2#32
  let v198 : BitVec 32 := Scalar.muli v197 c2_i32_146
  let v199 : BitVec 32 := Scalar.subi v180 v198
  let c512_i32_147 : BitVec 32 := 512#32
  let v200 : BitVec 32 := Scalar.muli v199 c512_i32_147
  let v261 : Index := Scalar.indexCast v200
  ![v260.toNat, 0, v261.toNat]
def k0_off21 (k0_t1 : Fin k0_t1_loop.trips) : Fin 3 → Nat :=
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c0_i32_193 : BitVec 32 := 0#32
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c2_i32_146 : BitVec 32 := 2#32
  let v198 : BitVec 32 := Scalar.muli v197 c2_i32_146
  let v199 : BitVec 32 := Scalar.subi v180 v198
  let c512_i32_147 : BitVec 32 := 512#32
  let v200 : BitVec 32 := Scalar.muli v199 c512_i32_147
  ![v178.toNat, 0, v200.toNat]
def k0_cond12 (k0_t1 : Fin k0_t1_loop.trips) : BitVec 1 :=
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c3_i32_181 : BitVec 32 := 3#32
  let v251 : BitVec 1 := Scalar.cmpi .eq v197 c3_i32_181
  let v252 : BitVec 32 := Scalar.extui v251
  let c0_i32_182 : BitVec 32 := 0#32
  let v253 : BitVec 1 := Scalar.cmpi .ne v252 c0_i32_182
  v253

def k0_off22 (k0_t1 : Fin k0_t1_loop.trips) : Fin 2 → Nat :=
  let c0_186 : Index := 0#32
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c2_i32_146 : BitVec 32 := 2#32
  let v198 : BitVec 32 := Scalar.muli v197 c2_i32_146
  let v199 : BitVec 32 := Scalar.subi v180 v198
  let c512_i32_147 : BitVec 32 := 512#32
  let v200 : BitVec 32 := Scalar.muli v199 c512_i32_147
  let v259 : Index := Scalar.indexCast v200
  ![0, v259.toNat]
def k0_off23 (k0_t1 : Fin k0_t1_loop.trips) : Fin 3 → Nat :=
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let v262 : Index := Scalar.indexCast v178
  let c0_187 : Index := 0#32
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c2_i32_146 : BitVec 32 := 2#32
  let v198 : BitVec 32 := Scalar.muli v197 c2_i32_146
  let v199 : BitVec 32 := Scalar.subi v180 v198
  let c512_i32_147 : BitVec 32 := 512#32
  let v200 : BitVec 32 := Scalar.muli v199 c512_i32_147
  let v263 : Index := Scalar.indexCast v200
  ![v262.toNat, 0, v263.toNat]
def k0_off24 (k0_t1 : Fin k0_t1_loop.trips) : Fin 3 → Nat :=
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c0_i32_190 : BitVec 32 := 0#32
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c2_i32_146 : BitVec 32 := 2#32
  let v198 : BitVec 32 := Scalar.muli v197 c2_i32_146
  let v199 : BitVec 32 := Scalar.subi v180 v198
  let c512_i32_147 : BitVec 32 := 512#32
  let v200 : BitVec 32 := Scalar.muli v199 c512_i32_147
  ![v178.toNat, 0, v200.toNat]
def k0_cond13 (k0_t1 : Fin k0_t1_loop.trips) : BitVec 1 :=
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c0_i32_192 : BitVec 32 := 0#32
  let v280 : BitVec 1 := Scalar.cmpi .eq v178 c0_i32_192
  let v281 : BitVec 32 := Scalar.extui v280
  let c0_i32_193 : BitVec 32 := 0#32
  let v282 : BitVec 1 := Scalar.cmpi .ne v281 c0_i32_193
  v282

def k0_off25 (k0_t1 : Fin k0_t1_loop.trips) : Fin 2 → Nat :=
  let c0_196 : Index := 0#32
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c2_i32_146 : BitVec 32 := 2#32
  let v198 : BitVec 32 := Scalar.muli v197 c2_i32_146
  let v199 : BitVec 32 := Scalar.subi v180 v198
  let c512_i32_147 : BitVec 32 := 512#32
  let v200 : BitVec 32 := Scalar.muli v199 c512_i32_147
  let v286 : Index := Scalar.indexCast v200
  ![0, v286.toNat]
def k0_cond14 (k0_t1 : Fin k0_t1_loop.trips) : BitVec 1 :=
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c1_i32_194 : BitVec 32 := 1#32
  let v283 : BitVec 1 := Scalar.cmpi .eq v178 c1_i32_194
  let v284 : BitVec 32 := Scalar.extui v283
  let c0_i32_195 : BitVec 32 := 0#32
  let v285 : BitVec 1 := Scalar.cmpi .ne v284 c0_i32_195
  v285

def k0_off26 (k0_t1 : Fin k0_t1_loop.trips) : Fin 2 → Nat :=
  let c0_197 : Index := 0#32
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c2_i32_146 : BitVec 32 := 2#32
  let v198 : BitVec 32 := Scalar.muli v197 c2_i32_146
  let v199 : BitVec 32 := Scalar.subi v180 v198
  let c512_i32_147 : BitVec 32 := 512#32
  let v200 : BitVec 32 := Scalar.muli v199 c512_i32_147
  let v290 : Index := Scalar.indexCast v200
  ![0, v290.toNat]
def k0_off27 (k0_t1 : Fin k0_t1_loop.trips) : Fin 2 → Nat :=
  let c0_i32_199 : BitVec 32 := 0#32
  let c0_i32_62 : BitVec 32 := 0#32
  let c1_i32_63 : BitVec 32 := 1#32
  let arg22 : BitVec 32 := Scf.iv c0_i32_62 c1_i32_63 k0_t1
  let c0_i32_132 : BitVec 32 := 0#32
  let v163 : BitVec 1 := Scalar.cmpi .sgt arg22 c0_i32_132
  let v164 : BitVec 32 := Scalar.extui v163
  let c0_i32_133 : BitVec 32 := 0#32
  let v165 : BitVec 1 := Scalar.cmpi .slt arg22 c0_i32_133
  let v166 : BitVec 32 := Scalar.extui v165
  let v167 : BitVec 32 := Scalar.subi v164 v166
  let c8_i32_131 : BitVec 32 := 8#32
  let c0_i32_134 : BitVec 32 := 0#32
  let v168 : BitVec 1 := Scalar.cmpi .sgt c8_i32_131 c0_i32_134
  let v169 : BitVec 32 := Scalar.extui v168
  let c0_i32_135 : BitVec 32 := 0#32
  let v170 : BitVec 1 := Scalar.cmpi .slt c8_i32_131 c0_i32_135
  let v171 : BitVec 32 := Scalar.extui v170
  let v172 : BitVec 32 := Scalar.subi v169 v171
  let v173 : BitVec 1 := Scalar.cmpi .ne v167 v172
  let v174 : BitVec 32 := Scalar.remsi arg22 c8_i32_131
  let c0_i32_136 : BitVec 32 := 0#32
  let v175 : BitVec 1 := Scalar.cmpi .ne v174 c0_i32_136
  let v176 : BitVec 1 := Scalar.andi v173 v175
  let v162 : BitVec 32 := Scalar.divsi arg22 c8_i32_131
  let c1_i32_137 : BitVec 32 := 1#32
  let v177 : BitVec 32 := Scalar.subi v162 c1_i32_137
  let v178 : BitVec 32 := Scalar.select v176 v177 v162
  let c8_i32_138 : BitVec 32 := 8#32
  let v179 : BitVec 32 := Scalar.muli v178 c8_i32_138
  let v180 : BitVec 32 := Scalar.subi arg22 v179
  let c0_i32_140 : BitVec 32 := 0#32
  let v182 : BitVec 1 := Scalar.cmpi .sgt v180 c0_i32_140
  let v183 : BitVec 32 := Scalar.extui v182
  let c0_i32_141 : BitVec 32 := 0#32
  let v184 : BitVec 1 := Scalar.cmpi .slt v180 c0_i32_141
  let v185 : BitVec 32 := Scalar.extui v184
  let v186 : BitVec 32 := Scalar.subi v183 v185
  let c2_i32_139 : BitVec 32 := 2#32
  let c0_i32_142 : BitVec 32 := 0#32
  let v187 : BitVec 1 := Scalar.cmpi .sgt c2_i32_139 c0_i32_142
  let v188 : BitVec 32 := Scalar.extui v187
  let c0_i32_143 : BitVec 32 := 0#32
  let v189 : BitVec 1 := Scalar.cmpi .slt c2_i32_139 c0_i32_143
  let v190 : BitVec 32 := Scalar.extui v189
  let v191 : BitVec 32 := Scalar.subi v188 v190
  let v192 : BitVec 1 := Scalar.cmpi .ne v186 v191
  let v193 : BitVec 32 := Scalar.remsi v180 c2_i32_139
  let c0_i32_144 : BitVec 32 := 0#32
  let v194 : BitVec 1 := Scalar.cmpi .ne v193 c0_i32_144
  let v195 : BitVec 1 := Scalar.andi v192 v194
  let v181 : BitVec 32 := Scalar.divsi v180 c2_i32_139
  let c1_i32_145 : BitVec 32 := 1#32
  let v196 : BitVec 32 := Scalar.subi v181 c1_i32_145
  let v197 : BitVec 32 := Scalar.select v195 v196 v181
  let c2_i32_146 : BitVec 32 := 2#32
  let v198 : BitVec 32 := Scalar.muli v197 c2_i32_146
  let v199 : BitVec 32 := Scalar.subi v180 v198
  let c512_i32_147 : BitVec 32 := 512#32
  let v200 : BitVec 32 := Scalar.muli v199 c512_i32_147
  ![0, v200.toNat]
def k0_cond15 (k0_t1 : Fin k0_t1_loop.trips) : BitVec 1 :=
  let c0_i32_62 : BitVec 32 := 0#32
  let c1_i32_63 : BitVec 32 := 1#32
  let arg22 : BitVec 32 := Scf.iv c0_i32_62 c1_i32_63 k0_t1
  let c4_i32_183 : BitVec 32 := 4#32
  let v254 : BitVec 32 := Scalar.addi arg22 c4_i32_183
  let c16_i32_184 : BitVec 32 := 16#32
  let v255 : BitVec 1 := Scalar.cmpi .slt v254 c16_i32_184
  let v256 : BitVec 32 := Scalar.extui v255
  let c0_i32_185 : BitVec 32 := 0#32
  let v257 : BitVec 1 := Scalar.cmpi .ne v256 c0_i32_185
  v257

def k0_cond16 (k0_t1 : Fin k0_t1_loop.trips) : BitVec 1 :=
  let c0_i32_62 : BitVec 32 := 0#32
  let c1_i32_63 : BitVec 32 := 1#32
  let arg22 : BitVec 32 := Scf.iv c0_i32_62 c1_i32_63 k0_t1
  let c4_i32_186 : BitVec 32 := 4#32
  let v258 : BitVec 32 := Scalar.addi arg22 c4_i32_186
  let c0_i32_188 : BitVec 32 := 0#32
  let v260 : BitVec 1 := Scalar.cmpi .sgt v258 c0_i32_188
  let v261 : BitVec 32 := Scalar.extui v260
  let c0_i32_189 : BitVec 32 := 0#32
  let v262 : BitVec 1 := Scalar.cmpi .slt v258 c0_i32_189
  let v263 : BitVec 32 := Scalar.extui v262
  let v264 : BitVec 32 := Scalar.subi v261 v263
  let c8_i32_187 : BitVec 32 := 8#32
  let c0_i32_190 : BitVec 32 := 0#32
  let v265 : BitVec 1 := Scalar.cmpi .sgt c8_i32_187 c0_i32_190
  let v266 : BitVec 32 := Scalar.extui v265
  let c0_i32_191 : BitVec 32 := 0#32
  let v267 : BitVec 1 := Scalar.cmpi .slt c8_i32_187 c0_i32_191
  let v268 : BitVec 32 := Scalar.extui v267
  let v269 : BitVec 32 := Scalar.subi v266 v268
  let v270 : BitVec 1 := Scalar.cmpi .ne v264 v269
  let v271 : BitVec 32 := Scalar.remsi v258 c8_i32_187
  let c0_i32_192 : BitVec 32 := 0#32
  let v272 : BitVec 1 := Scalar.cmpi .ne v271 c0_i32_192
  let v273 : BitVec 1 := Scalar.andi v270 v272
  let v259 : BitVec 32 := Scalar.divsi v258 c8_i32_187
  let c1_i32_193 : BitVec 32 := 1#32
  let v274 : BitVec 32 := Scalar.subi v259 c1_i32_193
  let v275 : BitVec 32 := Scalar.select v273 v274 v259
  let c0_i32_196 : BitVec 32 := 0#32
  let v279 : BitVec 1 := Scalar.cmpi .eq v275 c0_i32_196
  let v280 : BitVec 32 := Scalar.extui v279
  let c0_i32_197 : BitVec 32 := 0#32
  let v281 : BitVec 1 := Scalar.cmpi .ne v280 c0_i32_197
  v281

def k0_off28 (k0_t1 : Fin k0_t1_loop.trips) : Fin 2 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let c0_i32_201 : BitVec 32 := 0#32
  ![v161.toNat, 0]
def k0_off29 (k0_t1 : Fin k0_t1_loop.trips) : Fin 4 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let c0_i32_200 : BitVec 32 := 0#32
  let c0_i32_202 : BitVec 32 := 0#32
  let c0_i32_203 : BitVec 32 := 0#32
  ![v161.toNat, 0, 0, 0]
def k0_off30 (k0_t1 : Fin k0_t1_loop.trips) : Fin 2 → Nat :=
  let c0_i32_62 : BitVec 32 := 0#32
  let c1_i32_63 : BitVec 32 := 1#32
  let arg22 : BitVec 32 := Scf.iv c0_i32_62 c1_i32_63 k0_t1
  let c4_i32_186 : BitVec 32 := 4#32
  let v258 : BitVec 32 := Scalar.addi arg22 c4_i32_186
  let c0_i32_188 : BitVec 32 := 0#32
  let v260 : BitVec 1 := Scalar.cmpi .sgt v258 c0_i32_188
  let v261 : BitVec 32 := Scalar.extui v260
  let c0_i32_189 : BitVec 32 := 0#32
  let v262 : BitVec 1 := Scalar.cmpi .slt v258 c0_i32_189
  let v263 : BitVec 32 := Scalar.extui v262
  let v264 : BitVec 32 := Scalar.subi v261 v263
  let c8_i32_187 : BitVec 32 := 8#32
  let c0_i32_190 : BitVec 32 := 0#32
  let v265 : BitVec 1 := Scalar.cmpi .sgt c8_i32_187 c0_i32_190
  let v266 : BitVec 32 := Scalar.extui v265
  let c0_i32_191 : BitVec 32 := 0#32
  let v267 : BitVec 1 := Scalar.cmpi .slt c8_i32_187 c0_i32_191
  let v268 : BitVec 32 := Scalar.extui v267
  let v269 : BitVec 32 := Scalar.subi v266 v268
  let v270 : BitVec 1 := Scalar.cmpi .ne v264 v269
  let v271 : BitVec 32 := Scalar.remsi v258 c8_i32_187
  let c0_i32_192 : BitVec 32 := 0#32
  let v272 : BitVec 1 := Scalar.cmpi .ne v271 c0_i32_192
  let v273 : BitVec 1 := Scalar.andi v270 v272
  let v259 : BitVec 32 := Scalar.divsi v258 c8_i32_187
  let c1_i32_193 : BitVec 32 := 1#32
  let v274 : BitVec 32 := Scalar.subi v259 c1_i32_193
  let v275 : BitVec 32 := Scalar.select v273 v274 v259
  let c8_i32_194 : BitVec 32 := 8#32
  let v276 : BitVec 32 := Scalar.muli v275 c8_i32_194
  let v277 : BitVec 32 := Scalar.subi v258 v276
  let c512_i32_195 : BitVec 32 := 512#32
  let v278 : BitVec 32 := Scalar.muli v277 c512_i32_195
  let c0_i32_204 : BitVec 32 := 0#32
  ![v278.toNat, 0]
def k0_off31 (k0_t1 : Fin k0_t1_loop.trips) : Fin 2 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let c1_i32_206 : BitVec 32 := 1#32
  ![v161.toNat, 1]
def k0_off32 (k0_t1 : Fin k0_t1_loop.trips) : Fin 4 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let c1_i32_205 : BitVec 32 := 1#32
  let c0_i32_207 : BitVec 32 := 0#32
  let c0_i32_208 : BitVec 32 := 0#32
  ![v161.toNat, 1, 0, 0]
def k0_cond17 (k0_t1 : Fin k0_t1_loop.trips) : BitVec 1 :=
  let c0_i32_62 : BitVec 32 := 0#32
  let c1_i32_63 : BitVec 32 := 1#32
  let arg22 : BitVec 32 := Scf.iv c0_i32_62 c1_i32_63 k0_t1
  let c4_i32_186 : BitVec 32 := 4#32
  let v258 : BitVec 32 := Scalar.addi arg22 c4_i32_186
  let c0_i32_188 : BitVec 32 := 0#32
  let v260 : BitVec 1 := Scalar.cmpi .sgt v258 c0_i32_188
  let v261 : BitVec 32 := Scalar.extui v260
  let c0_i32_189 : BitVec 32 := 0#32
  let v262 : BitVec 1 := Scalar.cmpi .slt v258 c0_i32_189
  let v263 : BitVec 32 := Scalar.extui v262
  let v264 : BitVec 32 := Scalar.subi v261 v263
  let c8_i32_187 : BitVec 32 := 8#32
  let c0_i32_190 : BitVec 32 := 0#32
  let v265 : BitVec 1 := Scalar.cmpi .sgt c8_i32_187 c0_i32_190
  let v266 : BitVec 32 := Scalar.extui v265
  let c0_i32_191 : BitVec 32 := 0#32
  let v267 : BitVec 1 := Scalar.cmpi .slt c8_i32_187 c0_i32_191
  let v268 : BitVec 32 := Scalar.extui v267
  let v269 : BitVec 32 := Scalar.subi v266 v268
  let v270 : BitVec 1 := Scalar.cmpi .ne v264 v269
  let v271 : BitVec 32 := Scalar.remsi v258 c8_i32_187
  let c0_i32_192 : BitVec 32 := 0#32
  let v272 : BitVec 1 := Scalar.cmpi .ne v271 c0_i32_192
  let v273 : BitVec 1 := Scalar.andi v270 v272
  let v259 : BitVec 32 := Scalar.divsi v258 c8_i32_187
  let c1_i32_193 : BitVec 32 := 1#32
  let v274 : BitVec 32 := Scalar.subi v259 c1_i32_193
  let v275 : BitVec 32 := Scalar.select v273 v274 v259
  let c1_i32_198 : BitVec 32 := 1#32
  let v282 : BitVec 1 := Scalar.cmpi .eq v275 c1_i32_198
  let v283 : BitVec 32 := Scalar.extui v282
  let c0_i32_199 : BitVec 32 := 0#32
  let v284 : BitVec 1 := Scalar.cmpi .ne v283 c0_i32_199
  v284

def k0_off33 (k0_t1 : Fin k0_t1_loop.trips) : Fin 2 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let c0_i32_201 : BitVec 32 := 0#32
  ![v161.toNat, 0]
def k0_off34 (k0_t1 : Fin k0_t1_loop.trips) : Fin 4 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let c0_i32_200 : BitVec 32 := 0#32
  let c0_i32_202 : BitVec 32 := 0#32
  let c0_i32_203 : BitVec 32 := 0#32
  ![v161.toNat, 0, 0, 0]
def k0_off35 (k0_t1 : Fin k0_t1_loop.trips) : Fin 2 → Nat :=
  let c0_i32_62 : BitVec 32 := 0#32
  let c1_i32_63 : BitVec 32 := 1#32
  let arg22 : BitVec 32 := Scf.iv c0_i32_62 c1_i32_63 k0_t1
  let c4_i32_186 : BitVec 32 := 4#32
  let v258 : BitVec 32 := Scalar.addi arg22 c4_i32_186
  let c0_i32_188 : BitVec 32 := 0#32
  let v260 : BitVec 1 := Scalar.cmpi .sgt v258 c0_i32_188
  let v261 : BitVec 32 := Scalar.extui v260
  let c0_i32_189 : BitVec 32 := 0#32
  let v262 : BitVec 1 := Scalar.cmpi .slt v258 c0_i32_189
  let v263 : BitVec 32 := Scalar.extui v262
  let v264 : BitVec 32 := Scalar.subi v261 v263
  let c8_i32_187 : BitVec 32 := 8#32
  let c0_i32_190 : BitVec 32 := 0#32
  let v265 : BitVec 1 := Scalar.cmpi .sgt c8_i32_187 c0_i32_190
  let v266 : BitVec 32 := Scalar.extui v265
  let c0_i32_191 : BitVec 32 := 0#32
  let v267 : BitVec 1 := Scalar.cmpi .slt c8_i32_187 c0_i32_191
  let v268 : BitVec 32 := Scalar.extui v267
  let v269 : BitVec 32 := Scalar.subi v266 v268
  let v270 : BitVec 1 := Scalar.cmpi .ne v264 v269
  let v271 : BitVec 32 := Scalar.remsi v258 c8_i32_187
  let c0_i32_192 : BitVec 32 := 0#32
  let v272 : BitVec 1 := Scalar.cmpi .ne v271 c0_i32_192
  let v273 : BitVec 1 := Scalar.andi v270 v272
  let v259 : BitVec 32 := Scalar.divsi v258 c8_i32_187
  let c1_i32_193 : BitVec 32 := 1#32
  let v274 : BitVec 32 := Scalar.subi v259 c1_i32_193
  let v275 : BitVec 32 := Scalar.select v273 v274 v259
  let c8_i32_194 : BitVec 32 := 8#32
  let v276 : BitVec 32 := Scalar.muli v275 c8_i32_194
  let v277 : BitVec 32 := Scalar.subi v258 v276
  let c512_i32_195 : BitVec 32 := 512#32
  let v278 : BitVec 32 := Scalar.muli v277 c512_i32_195
  let c0_i32_204 : BitVec 32 := 0#32
  ![v278.toNat, 0]
def k0_off36 (k0_t1 : Fin k0_t1_loop.trips) : Fin 2 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let c1_i32_206 : BitVec 32 := 1#32
  ![v161.toNat, 1]
def k0_off37 (k0_t1 : Fin k0_t1_loop.trips) : Fin 4 → Nat :=
  let c0_i32_62 : BitVec 32 := 0#32
  let c1_i32_63 : BitVec 32 := 1#32
  let arg22 : BitVec 32 := Scf.iv c0_i32_62 c1_i32_63 k0_t1
  let c4_i32 : BitVec 32 := 4#32
  let v161 : BitVec 32 := Scalar.remsi arg22 c4_i32
  let c1_i32_205 : BitVec 32 := 1#32
  let c0_i32_207 : BitVec 32 := 0#32
  let c0_i32_208 : BitVec 32 := 0#32
  ![v161.toNat, 1, 0, 0]
abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S128x1x1024 : Shape := ⟨3, ![128, 1, 1024]⟩
abbrev S128 : Shape := ⟨1, ![128]⟩
abbrev S2x128x1024 : Shape := ⟨3, ![2, 128, 1024]⟩
abbrev S4096x1024 : Shape := ⟨2, ![4096, 1024]⟩
abbrev S4096 : Shape := ⟨1, ![4096]⟩
abbrev S128x1024 : Shape := ⟨2, ![128, 1024]⟩
abbrev S1x128x1024 : Shape := ⟨3, ![1, 128, 1024]⟩
abbrev S1024x4096 : Shape := ⟨2, ![1024, 4096]⟩
abbrev S128x4096 : Shape := ⟨2, ![128, 4096]⟩
abbrev S1x4096 : Shape := ⟨2, ![1, 4096]⟩
abbrev S_ : Shape := ⟨0, ![]⟩
abbrev S128x1 : Shape := ⟨2, ![128, 1]⟩

abbrev nBuf : Space → Nat
  | .hbm => 142
  | .vmem => 0
  | .smem => 0
  | _ => 0

abbrev hbmTy0_0 (i : Nat) : BufTy := match i % 128 with
  | 0 => ⟨S128x1x1024, .f32⟩
  | 1 => ⟨S128, .i32⟩
  | 2 => ⟨S2x128x1024, .f32⟩
  | 3 => ⟨S2x128x1024, .f32⟩
  | 4 => ⟨S4096x1024, .f32⟩
  | 5 => ⟨S4096x1024, .f32⟩
  | 6 => ⟨S4096, .f32⟩
  | 7 => ⟨S4096, .f32⟩
  | 8 => ⟨S4096x1024, .f32⟩
  | 9 => ⟨S4096x1024, .f32⟩
  | 10 => ⟨S4096, .f32⟩
  | 11 => ⟨S4096, .f32⟩
  | 12 => ⟨S128x1024, .f32⟩
  | 13 => ⟨S1x128x1024, .f32⟩
  | 14 => ⟨S128x1024, .f32⟩
  | 15 => ⟨S1x128x1024, .f32⟩
  | 16 => ⟨S128x1024, .f32⟩
  | 17 => ⟨S1024x4096, .f32⟩
  | 18 => ⟨S128x4096, .f32⟩
  | 19 => ⟨S1024x4096, .f32⟩
  | 20 => ⟨S128x4096, .f32⟩
  | 21 => ⟨S128x4096, .f32⟩
  | 22 => ⟨S1x4096, .f32⟩
  | 23 => ⟨S128x4096, .f32⟩
  | 24 => ⟨S128x4096, .f32⟩
  | 25 => ⟨S1x4096, .f32⟩
  | 26 => ⟨S128x4096, .f32⟩
  | 27 => ⟨S128x4096, .f32⟩
  | 28 => ⟨S128x1024, .f32⟩
  | 29 => ⟨S128x1024, .f32⟩
  | 30 => ⟨S128x1024, .f32⟩
  | 31 => ⟨S128x1024, .f32⟩
  | 32 => ⟨S128x1024, .f32⟩
  | 33 => ⟨S128x1024, .f32⟩
  | 34 => ⟨S_, .f32⟩
  | 35 => ⟨S128x1024, .f32⟩
  | 36 => ⟨S128x1024, .f32⟩
  | 37 => ⟨S_, .f32⟩
  | 38 => ⟨S128x1024, .f32⟩
  | 39 => ⟨S128x1024, .f32⟩
  | 40 => ⟨S128x1024, .f32⟩
  | 41 => ⟨S128x1024, .f32⟩
  | 42 => ⟨S_, .f32⟩
  | 43 => ⟨S128x1024, .f32⟩
  | 44 => ⟨S128x1024, .f32⟩
  | 45 => ⟨S_, .f32⟩
  | 46 => ⟨S128x1024, .f32⟩
  | 47 => ⟨S128x1024, .f32⟩
  | 48 => ⟨S128x1024, .f32⟩
  | 49 => ⟨S128x1024, .f32⟩
  | 50 => ⟨S128x1024, .f32⟩
  | 51 => ⟨S_, .f32⟩
  | 52 => ⟨S128x1024, .f32⟩
  | 53 => ⟨S128x1024, .f32⟩
  | 54 => ⟨S_, .f32⟩
  | 55 => ⟨S128x1024, .f32⟩
  | 56 => ⟨S128x1024, .f32⟩
  | 57 => ⟨S128x1024, .f32⟩
  | 58 => ⟨S128x1024, .f32⟩
  | 59 => ⟨S128x1024, .f32⟩
  | 60 => ⟨S128x1024, .f32⟩
  | 61 => ⟨S128x1024, .f32⟩
  | 62 => ⟨S1x128x1024, .f32⟩
  | 63 => ⟨S128x1024, .f32⟩
  | 64 => ⟨S1x128x1024, .f32⟩
  | 65 => ⟨S128x1024, .f32⟩
  | 66 => ⟨S1024x4096, .f32⟩
  | 67 => ⟨S128x4096, .f32⟩
  | 68 => ⟨S1024x4096, .f32⟩
  | 69 => ⟨S128x4096, .f32⟩
  | 70 => ⟨S128x4096, .f32⟩
  | 71 => ⟨S1x4096, .f32⟩
  | 72 => ⟨S128x4096, .f32⟩
  | 73 => ⟨S128x4096, .f32⟩
  | 74 => ⟨S1x4096, .f32⟩
  | 75 => ⟨S128x4096, .f32⟩
  | 76 => ⟨S128x4096, .f32⟩
  | 77 => ⟨S128x1024, .f32⟩
  | 78 => ⟨S128x1024, .f32⟩
  | 79 => ⟨S128x1024, .f32⟩
  | 80 => ⟨S128x1024, .f32⟩
  | 81 => ⟨S128x1024, .f32⟩
  | 82 => ⟨S128x1024, .f32⟩
  | 83 => ⟨S_, .f32⟩
  | 84 => ⟨S128x1024, .f32⟩
  | 85 => ⟨S128x1024, .f32⟩
  | 86 => ⟨S_, .f32⟩
  | 87 => ⟨S128x1024, .f32⟩
  | 88 => ⟨S128x1024, .f32⟩
  | 89 => ⟨S128x1024, .f32⟩
  | 90 => ⟨S128x1024, .f32⟩
  | 91 => ⟨S_, .f32⟩
  | 92 => ⟨S128x1024, .f32⟩
  | 93 => ⟨S128x1024, .f32⟩
  | 94 => ⟨S_, .f32⟩
  | 95 => ⟨S128x1024, .f32⟩
  | 96 => ⟨S128x1024, .f32⟩
  | 97 => ⟨S128x1024, .f32⟩
  | 98 => ⟨S128x1024, .f32⟩
  | 99 => ⟨S128x1024, .f32⟩
  | 100 => ⟨S_, .f32⟩
  | 101 => ⟨S128x1024, .f32⟩
  | 102 => ⟨S128x1024, .f32⟩
  | 103 => ⟨S_, .f32⟩
  | 104 => ⟨S128x1024, .f32⟩
  | 105 => ⟨S128x1024, .f32⟩
  | 106 => ⟨S128x1024, .f32⟩
  | 107 => ⟨S128x1024, .f32⟩
  | 108 => ⟨S128x1024, .f32⟩
  | 109 => ⟨S128x1024, .f32⟩
  | 110 => ⟨S128x1024, .f32⟩
  | 111 => ⟨S_, .i32⟩
  | 112 => ⟨S128, .i32⟩
  | 113 => ⟨S128, .i1⟩
  | 114 => ⟨S128x1, .i1⟩
  | 115 => ⟨S_, .f32⟩
  | 116 => ⟨S128x1024, .f32⟩
  | 117 => ⟨S128x1024, .i1⟩
  | 118 => ⟨S128x1024, .f32⟩
  | 119 => ⟨S128x1x1024, .f32⟩
  | 120 => ⟨S1x128x1024, .f32⟩
  | 121 => ⟨S128x1024, .f32⟩
  | 122 => ⟨S128x1024, .i1⟩
  | 123 => ⟨S128x1024, .f32⟩
  | 124 => ⟨S1x128x1024, .f32⟩
  | 125 => ⟨S128x1024, .f32⟩
  | 126 => ⟨S128x1024, .i1⟩
  | 127 => ⟨S128x1024, .f32⟩
  | _ => ⟨S128x1x1024, .f32⟩

abbrev hbmTy0_1 (i : Nat) : BufTy := match i % 128 with
  | 0 => ⟨S1x128x1024, .f32⟩
  | 1 => ⟨S1x128x1024, .f32⟩
  | 2 => ⟨S2x128x1024, .f32⟩
  | 3 => ⟨S1x128x1024, .f32⟩
  | 4 => ⟨S128x1024, .f32⟩
  | 5 => ⟨S128x1024, .i1⟩
  | 6 => ⟨S128x1024, .f32⟩
  | 7 => ⟨S1x128x1024, .f32⟩
  | 8 => ⟨S128x1024, .f32⟩
  | 9 => ⟨S128x1024, .i1⟩
  | 10 => ⟨S128x1024, .f32⟩
  | 11 => ⟨S1x128x1024, .f32⟩
  | 12 => ⟨S1x128x1024, .f32⟩
  | 13 => ⟨S2x128x1024, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_5 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_7 : Ref sig .tc := ⟨.hbm, 91, rfl⟩
abbrev main_v71 : Ref sig .tc := ⟨.hbm, 92, rfl⟩
abbrev main_v72 : Ref sig .tc := ⟨.hbm, 93, rfl⟩
abbrev main_cst_8 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_9 : Ref sig .tc := ⟨.hbm, 100, rfl⟩
abbrev main_v78 : Ref sig .tc := ⟨.hbm, 101, rfl⟩
abbrev main_v79 : Ref sig .tc := ⟨.hbm, 102, rfl⟩
abbrev main_cst_10 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_11 : Ref sig .tc := ⟨.hbm, 115, rfl⟩
abbrev main_v90 : Ref sig .tc := ⟨.hbm, 116, rfl⟩
abbrev main_call0_v0 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_call1_v0 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_call2_v0 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_call3_v0 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_call4_v0 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩

abbrev nD : Nat := 1
abbrev τ : Topo := Topo.v7x

variable {F : FTy → Type} [FloatOps F]
-- ==== Proof.KernelIdealNames.lean ====
/-
  The names of the run: the blocks of the weights, the slots of the weight buffer and their semaphores, the column
  blocks of the state arrays — each as the body slices it, with the closed forms of the offsets the body computes.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Ring
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A trip of the loop: sixteen of them, `k = 8·layer + 2·gate + half`. -/
abbrev Trip : Type := Fin k0_t1_loop.trips

theorem trips_eq : k0_t1_loop.trips = 16 := by decide +kernel
theorem trip_lt (k : Trip) : k.val < 16 := Nat.lt_of_lt_of_eq k.isLt trips_eq

/-! ## The buffers as whole memrefs -/

abbrev wih0 : Memref sig .tc .hbm S4096x1024 .f32 := Memref.whole main_arg4
abbrev whh0 : Memref sig .tc .hbm S4096x1024 .f32 := Memref.whole main_arg5
abbrev wih1 : Memref sig .tc .hbm S4096x1024 .f32 := Memref.whole main_arg8
abbrev whh1 : Memref sig .tc .hbm S4096x1024 .f32 := Memref.whole main_arg9
abbrev outM : Memref sig .tc .hbm S128x1024 .f32 := Memref.whole main_v10_0
abbrev nhM : Memref sig .tc .hbm S2x128x1024 .f32 := Memref.whole main_v10_1
abbrev ncM : Memref sig .tc .hbm S2x128x1024 .f32 := Memref.whole main_v10_2
abbrev bufM : Memref sig .tc .vmem S4x2x512x1024 .f32 := Memref.whole cc0_scratch0
abbrev igM : Memref sig .tc .vmem S128x1024 .f32 := Memref.whole cc0_scratch1
abbrev fgM : Memref sig .tc .vmem S128x1024 .f32 := Memref.whole cc0_scratch2
abbrev tcM : Memref sig .tc .vmem S128x1024 .f32 := Memref.whole cc0_scratch3
abbrev h1M : Memref sig .tc .vmem S128x1024 .f32 := Memref.whole cc0_scratch4
abbrev nhS : Memref sig .tc .vmem S2x128x1024 .f32 := Memref.whole cc0_scratch5
abbrev ncS : Memref sig .tc .vmem S2x128x1024 .f32 := Memref.whole cc0_scratch6
abbrev outS : Memref sig .tc .vmem S128x1024 .f32 := Memref.whole cc0_scratch7

/-! ## Blocks, slots, cells -/

abbrev wOff (b : Fin 8) : Fin 2 → Nat := ![512 * b.val, 0]
theorem wOff_inb (b : Fin 8) : ∀ a, wOff b a + S512x1024.size a ≤ S4096x1024.size a := by
  have := b.isLt; intro a; fin_cases a
  · show 512 * b.val + 512 ≤ 4096; omega
  · show 0 + 1024 ≤ 1024; omega
abbrev slotOff (s : Fin 4) (i : Fin 2) : Fin 4 → Nat := ![s.val, i.val, 0, 0]
theorem slotOff_inb (s : Fin 4) (i : Fin 2) : ∀ a, slotOff s i a + S1x1x512x1024.size a ≤ S4x2x512x1024.size a := by
  have := s.isLt; have := i.isLt; intro a; fin_cases a
  · show s.val + 1 ≤ 4; omega
  · show i.val + 1 ≤ 2; omega
  · show 0 + 512 ≤ 512; omega
  · show 0 + 1024 ≤ 1024; omega
abbrev cellOff (s : Fin 4) (i : Fin 2) : Fin 2 → Nat := ![s.val, i.val]
theorem cellOff_inb (s : Fin 4) (i : Fin 2) : ∀ a, cellOff s i a + S1x1.size a ≤ S4x2.size a := by
  have := s.isLt; have := i.isLt; intro a; fin_cases a
  · show s.val + 1 ≤ 4; omega
  · show i.val + 1 ≤ 2; omega
abbrev osemOff (i : Fin 3) : Fin 1 → Nat := ![i.val]
theorem osemOff_inb (i : Fin 3) : ∀ a, osemOff i a + S1.size a ≤ S3.size a := by
  have := i.isLt; intro a; fin_cases a; show i.val + 1 ≤ 3; omega
/-- Block `j = 2·layer + half` of a state array with both layers. -/
abbrev hOff (j : Fin 4) : Fin 3 → Nat := ![j.val / 2, 0, 512 * (j.val % 2)]
theorem hOff_inb (j : Fin 4) : ∀ a, hOff j a + S1x128x512.size a ≤ S2x128x1024.size a := by
  have := j.isLt; intro a; fin_cases a
  · show j.val / 2 + 1 ≤ 2; omega
  · show 0 + 128 ≤ 128; omega
  · show 512 * (j.val % 2) + 512 ≤ 1024; omega
/-- Half `s` of the columns. -/
abbrev cOff (s : Fin 2) : Fin 2 → Nat := ![0, 512 * s.val]
theorem cOff_inb (s : Fin 2) : ∀ a, cOff s a + S128x512.size a ≤ S128x1024.size a := by
  have := s.isLt; intro a; fin_cases a
  · show 0 + 128 ≤ 128; omega
  · show 512 * s.val + 512 ≤ 1024; omega
/-- One layer of a state array with both. -/
abbrev lOff (l : Fin 2) : Fin 3 → Nat := ![l.val, 0, 0]
theorem lOff_inb (l : Fin 2) : ∀ a, lOff l a + S1x128x1024.size a ≤ S2x128x1024.size a := by
  have := l.isLt; intro a; fin_cases a
  · show l.val + 1 ≤ 2; omega
  · show 0 + 128 ≤ 128; omega
  · show 0 + 1024 ≤ 1024; omega
/-- Block `b` of layer `l`'s row of the biases. -/
abbrev bOff (l : Fin 2) (b : Fin 8) : Fin 2 → Nat := ![l.val, 512 * b.val]
theorem bOff_inb (l : Fin 2) (b : Fin 8) : ∀ a, bOff l b a + S1x512.size a ≤ S2x4096.size a := by
  have := l.isLt; have := b.isLt; intro a; fin_cases a
  · show l.val + 1 ≤ 2; omega
  · show 512 * b.val + 512 ≤ 4096; omega

/-- Rows `512·b …` of a weight matrix, as the body slices it. -/
def wblk (M : Memref sig .tc .hbm S4096x1024 .f32) (b : Fin 8) : Memref sig .tc .hbm S512x1024 .f32 :=
  M.slice (Rect.unit (s := S4096x1024) (wOff b) S512x1024.size (wOff_inb b)) (fun _ => rfl)
/-- Half `i` (input or recurrent weights) of slot `s` of the weight buffer. -/
def rslot (s : Fin 4) (i : Fin 2) : Memref sig .tc .vmem S512x1024 .f32 :=
  (bufM.slice (Rect.unit (s := S4x2x512x1024) (slotOff s i) S1x1x512x1024.size (slotOff_inb s i)) (fun _ => rfl)).squeeze S512x1024 squeezes_S1x1x512x1024_S512x1024
/-- The semaphore of that half. -/
def csm (s : Fin 4) (i : Fin 2) : DmaSems sig S_ :=
  (cc0_scratch8.slice (Rect.unit (s := S4x2) (cellOff s i) S1x1.size (cellOff_inb s i))).squeeze S_ squeezes_S1x1_S_
/-- Output semaphore `i`: the cells' copies, the hidden states', the output's. -/
def osm (i : Fin 3) : DmaSems sig S_ :=
  (cc0_scratch9.slice (Rect.unit (s := S3) (osemOff i) S1.size (osemOff_inb i))).squeeze S_ squeezes_S1_S_
/-- Block `j` of a state array. -/
def hblk {sp : Space} (M : Memref sig .tc sp S2x128x1024 .f32) (j : Fin 4) : Memref sig .tc sp S128x512 .f32 :=
  (M.slice (Rect.unit (s := S2x128x1024) (hOff j) S1x128x512.size (hOff_inb j)) (fun _ => rfl)).squeeze S128x512 squeezes_S1x128x512_S128x512
/-- Half `s` of the columns of an array. -/
def cblk {sp : Space} (M : Memref sig .tc sp S128x1024 .f32) (s : Fin 2) : Memref sig .tc sp S128x512 .f32 :=
  M.slice (Rect.unit (s := S128x1024) (cOff s) S128x512.size (cOff_inb s)) (fun _ => rfl)

instance (b : Fin 8) : ClosedOff (wOff b) := ⟨wOff b, rfl⟩
instance (s : Fin 4) (i : Fin 2) : ClosedOff (slotOff s i) := ⟨slotOff s i, rfl⟩
instance (j : Fin 4) : ClosedOff (hOff j) := ⟨hOff j, rfl⟩
instance (s : Fin 2) : ClosedOff (cOff s) := ⟨cOff s, rfl⟩

/-! ## The indices of a trip and the closed forms of its offsets and conditions -/

/-- The slot, the block of the weights, the layer, the half and the block of the state of trip `k`. -/
abbrev slK (k : ℕ) : Fin 4 := Fin.ofNat 4 k
abbrev blK (k : ℕ) : Fin 8 := Fin.ofNat 8 k
abbrev lyK (k : ℕ) : Fin 2 := Fin.ofNat 2 (k / 8)
abbrev hfK (k : ℕ) : Fin 2 := Fin.ofNat 2 k
abbrev stK (k : ℕ) : Fin 4 := Fin.ofNat 4 (2 * (k / 8) + k % 2)

theorem off9_eq : ∀ k : Trip, k0_off9 k = cellOff (slK k.val) 0 := by decide +kernel
theorem off10_eq : ∀ k : Trip, k0_off10 k = slotOff (slK k.val) 0 := by decide +kernel
theorem off11_eq : ∀ k : Trip, k0_off11 k = cellOff (slK k.val) 1 := by decide +kernel
theorem off12_eq : ∀ k : Trip, k0_off12 k = slotOff (slK k.val) 1 := by decide +kernel
theorem off13_eq : ∀ k : Trip, k0_off13 k = lOff (lyK k.val) := by decide +kernel
theorem off14_eq : ∀ k : Trip, k0_off14 k = slotOff (slK k.val) 0 := by decide +kernel
theorem off15_eq : ∀ k : Trip, k0_off15 k = slotOff (slK k.val) 1 := by decide +kernel
theorem off16_eq : ∀ k : Trip, k0_off16 k = bOff (lyK k.val) (blK k.val) := by decide +kernel
theorem off17_eq : ∀ k : Trip, k0_off17 k = cOff (hfK k.val) := by decide +kernel
theorem off18_eq : ∀ k : Trip, k0_off18 k = cOff (hfK k.val) := by decide +kernel
theorem off19_eq : ∀ k : Trip, k0_off19 k = cOff (hfK k.val) := by decide +kernel
theorem off20_eq : ∀ k : Trip, k0_off20 k = hOff (stK k.val) := by decide +kernel
theorem off21_eq : ∀ k : Trip, k0_off21 k = hOff (stK k.val) := by decide +kernel
theorem off22_eq : ∀ k : Trip, k0_off22 k = cOff (hfK k.val) := by decide +kernel
theorem off23_eq : ∀ k : Trip, k0_off23 k = hOff (stK k.val) := by decide +kernel
theorem off24_eq : ∀ k : Trip, k0_off24 k = hOff (stK k.val) := by decide +kernel
theorem off25_eq : ∀ k : Trip, k0_off25 k = cOff (hfK k.val) := by decide +kernel
theorem off26_eq : ∀ k : Trip, k0_off26 k = cOff (hfK k.val) := by decide +kernel
theorem off27_eq : ∀ k : Trip, k0_off27 k = cOff (hfK k.val) := by decide +kernel
theorem off28_eq : ∀ k : Trip, k0_off28 k = cellOff (slK k.val) 0 := by decide +kernel
theorem off29_eq : ∀ k : Trip, k0_off29 k = slotOff (slK k.val) 0 := by decide +kernel
theorem off30_eq : ∀ k : Trip, k0_off30 k = wOff (blK (k.val + 4)) := by decide +kernel
theorem off31_eq : ∀ k : Trip, k0_off31 k = cellOff (slK k.val) 1 := by decide +kernel
theorem off32_eq : ∀ k : Trip, k0_off32 k = slotOff (slK k.val) 1 := by decide +kernel
theorem off33_eq : ∀ k : Trip, k0_off33 k = cellOff (slK k.val) 0 := by decide +kernel
theorem off34_eq : ∀ k : Trip, k0_off34 k = slotOff (slK k.val) 0 := by decide +kernel
theorem off35_eq : ∀ k : Trip, k0_off35 k = wOff (blK (k.val + 4)) := by decide +kernel
theorem off36_eq : ∀ k : Trip, k0_off36 k = cellOff (slK k.val) 1 := by decide +kernel
theorem off37_eq : ∀ k : Trip, k0_off37 k = slotOff (slK k.val) 1 := by decide +kernel

theorem cond9_iff : ∀ k : Trip, k0_cond9 k = 1#1 ↔ k.val % 8 / 2 = 0 := by decide +kernel
theorem cond10_iff : ∀ k : Trip, k0_cond10 k = 1#1 ↔ k.val % 8 / 2 = 1 := by decide +kernel
theorem cond11_iff : ∀ k : Trip, k0_cond11 k = 1#1 ↔ k.val % 8 / 2 = 2 := by decide +kernel
theorem cond12_iff : ∀ k : Trip, k0_cond12 k = 1#1 ↔ k.val % 8 / 2 = 3 := by decide +kernel
theorem cond13_iff : ∀ k : Trip, k0_cond13 k = 1#1 ↔ k.val / 8 = 0 := by decide +kernel
theorem cond14_iff : ∀ k : Trip, k0_cond14 k = 1#1 ↔ k.val / 8 = 1 := by decide +kernel
theorem cond15_iff : ∀ k : Trip, k0_cond15 k = 1#1 ↔ k.val + 4 < 16 := by decide +kernel
theorem cond16_iff : ∀ k : Trip, k0_cond16 k = 1#1 ↔ (k.val + 4) / 8 = 0 := by decide +kernel
theorem cond17_iff : ∀ k : Trip, k0_cond17 k = 1#1 ↔ (k.val + 4) / 8 = 1 := by decide +kernel

theorem cond1_eq : k0_cond1 = 1#1 := by decide +kernel
theorem cond2_ne : ¬ k0_cond2 = 1#1 := by decide +kernel
theorem cond3_eq : k0_cond3 = 1#1 := by decide +kernel
theorem cond4_ne : ¬ k0_cond4 = 1#1 := by decide +kernel
theorem cond5_eq : k0_cond5 = 1#1 := by decide +kernel
theorem cond6_ne : ¬ k0_cond6 = 1#1 := by decide +kernel
theorem cond7_eq : k0_cond7 = 1#1 := by decide +kernel
theorem cond8_ne : ¬ k0_cond8 = 1#1 := by decide +kernel
theorem off1_eq : k0_off1 = wOff 0 := by decide +kernel
theorem off3_eq : k0_off3 = wOff 1 := by decide +kernel
theorem off5_eq : k0_off5 = wOff 2 := by decide +kernel
theorem off7_eq : k0_off7 = wOff 3 := by decide +kernel

instance (k : Trip) : ClosedOff (k0_off10 k) := ⟨_, off10_eq k⟩
instance (k : Trip) : ClosedOff (k0_off12 k) := ⟨_, off12_eq k⟩
instance (k : Trip) : ClosedOff (k0_off13 k) := ⟨_, off13_eq k⟩
instance (k : Trip) : ClosedOff (k0_off14 k) := ⟨_, off14_eq k⟩
instance (k : Trip) : ClosedOff (k0_off15 k) := ⟨_, off15_eq k⟩
instance (k : Trip) : ClosedOff (k0_off16 k) := ⟨_, off16_eq k⟩
instance (k : Trip) : ClosedOff (k0_off17 k) := ⟨_, off17_eq k⟩
instance (k : Trip) : ClosedOff (k0_off18 k) := ⟨_, off18_eq k⟩
instance (k : Trip) : ClosedOff (k0_off19 k) := ⟨_, off19_eq k⟩
instance (k : Trip) : ClosedOff (k0_off20 k) := ⟨_, off20_eq k⟩
instance (k : Trip) : ClosedOff (k0_off21 k) := ⟨_, off21_eq k⟩
instance (k : Trip) : ClosedOff (k0_off22 k) := ⟨_, off22_eq k⟩
instance (k : Trip) : ClosedOff (k0_off23 k) := ⟨_, off23_eq k⟩
instance (k : Trip) : ClosedOff (k0_off24 k) := ⟨_, off24_eq k⟩
instance (k : Trip) : ClosedOff (k0_off25 k) := ⟨_, off25_eq k⟩
instance (k : Trip) : ClosedOff (k0_off26 k) := ⟨_, off26_eq k⟩
instance (k : Trip) : ClosedOff (k0_off27 k) := ⟨_, off27_eq k⟩

/-! ## The body's slices are the canonical ones -/

theorem csm_congr {off : Fin 2 → Nat} {s : Fin 4} {i : Fin 2} (e : off = cellOff s i) (hh) :
    (cc0_scratch8.slice (Rect.unit (s := S4x2) off S1x1.size hh)).squeeze S_ squeezes_S1x1_S_ = csm s i :=
  congrArg (fun A : DmaSems sig S1x1 => A.squeeze S_ squeezes_S1x1_S_) (SemArray.slice_unit_congr _ e _ _)
theorem osm_congr {off : Fin 1 → Nat} {i : Fin 3} (e : off = osemOff i) (hh) :
    (cc0_scratch9.slice (Rect.unit (s := S3) off S1.size hh)).squeeze S_ squeezes_S1_S_ = osm i :=
  congrArg (fun A : DmaSems sig S1 => A.squeeze S_ squeezes_S1_S_) (SemArray.slice_unit_congr _ e _ _)
theorem rslot_congr {off : Fin 4 → Nat} {s : Fin 4} {i : Fin 2} (e : off = slotOff s i) (hh hs) :
    (bufM.slice (Rect.unit (s := S4x2x512x1024) off S1x1x512x1024.size hh) hs).squeeze S512x1024 squeezes_S1x1x512x1024_S512x1024 = rslot s i :=
  congrArg (fun M : Memref sig .tc .vmem S1x1x512x1024 .f32 => M.squeeze S512x1024 squeezes_S1x1x512x1024_S512x1024) (Memref.slice_unit_congr _ e _ _ _ _)
theorem wblk_congr (M : Memref sig .tc .hbm S4096x1024 .f32) {off : Fin 2 → Nat} {b : Fin 8} (e : off = wOff b) (hh hs) :
    M.slice (Rect.unit (s := S4096x1024) off S512x1024.size hh) hs = wblk M b :=
  Memref.slice_unit_congr _ e _ _ _ (fun _ => rfl)
theorem hblk_congr {sp : Space} (M : Memref sig .tc sp S2x128x1024 .f32) {off : Fin 3 → Nat} {j : Fin 4} (e : off = hOff j) (hh hs) :
    (M.slice (Rect.unit (s := S2x128x1024) off S1x128x512.size hh) hs).squeeze S128x512 squeezes_S1x128x512_S128x512 = hblk M j :=
  congrArg (fun M : Memref sig .tc sp S1x128x512 .f32 => M.squeeze S128x512 squeezes_S1x128x512_S128x512) (Memref.slice_unit_congr _ e _ _ _ _)
theorem cblk_congr {sp : Space} (M : Memref sig .tc sp S128x1024 .f32) {off : Fin 2 → Nat} {s : Fin 2} (e : off = cOff s) (hh hs) :
    M.slice (Rect.unit (s := S128x1024) off S128x512.size hh) hs = cblk M s :=
  Memref.slice_unit_congr _ e _ _ _ (fun _ => rfl)

section Canon

@[sl_canon] theorem semW0 (k : Trip) (hh) : (cc0_scratch8.slice (Rect.unit (s := S4x2) (k0_off9 k) S1x1.size hh)).squeeze S_ squeezes_S1x1_S_ = csm (slK k.val) 0 := csm_congr (off9_eq k) _
@[sl_canon] theorem semW1 (k : Trip) (hh) : (cc0_scratch8.slice (Rect.unit (s := S4x2) (k0_off11 k) S1x1.size hh)).squeeze S_ squeezes_S1x1_S_ = csm (slK k.val) 1 := csm_congr (off11_eq k) _
@[sl_canon] theorem semI0 (k : Trip) (hh) : (cc0_scratch8.slice (Rect.unit (s := S4x2) (k0_off28 k) S1x1.size hh)).squeeze S_ squeezes_S1x1_S_ = csm (slK k.val) 0 := csm_congr (off28_eq k) _
@[sl_canon] theorem semI1 (k : Trip) (hh) : (cc0_scratch8.slice (Rect.unit (s := S4x2) (k0_off31 k) S1x1.size hh)).squeeze S_ squeezes_S1x1_S_ = csm (slK k.val) 1 := csm_congr (off31_eq k) _
@[sl_canon] theorem semJ0 (k : Trip) (hh) : (cc0_scratch8.slice (Rect.unit (s := S4x2) (k0_off33 k) S1x1.size hh)).squeeze S_ squeezes_S1x1_S_ = csm (slK k.val) 0 := csm_congr (off33_eq k) _
@[sl_canon] theorem semJ1 (k : Trip) (hh) : (cc0_scratch8.slice (Rect.unit (s := S4x2) (k0_off36 k) S1x1.size hh)).squeeze S_ squeezes_S1x1_S_ = csm (slK k.val) 1 := csm_congr (off36_eq k) _

@[sl_canon] theorem slotW0 (k : Trip) (hh hs) : (bufM.slice (Rect.unit (s := S4x2x512x1024) (k0_off10 k) S1x1x512x1024.size hh) hs).squeeze S512x1024 squeezes_S1x1x512x1024_S512x1024 = rslot (slK k.val) 0 := rslot_congr (off10_eq k) _ _
@[sl_canon] theorem slotW1 (k : Trip) (hh hs) : (bufM.slice (Rect.unit (s := S4x2x512x1024) (k0_off12 k) S1x1x512x1024.size hh) hs).squeeze S512x1024 squeezes_S1x1x512x1024_S512x1024 = rslot (slK k.val) 1 := rslot_congr (off12_eq k) _ _
@[sl_canon] theorem slotI0 (k : Trip) (hh hs) : (bufM.slice (Rect.unit (s := S4x2x512x1024) (k0_off29 k) S1x1x512x1024.size hh) hs).squeeze S512x1024 squeezes_S1x1x512x1024_S512x1024 = rslot (slK k.val) 0 := rslot_congr (off29_eq k) _ _
@[sl_canon] theorem slotI1 (k : Trip) (hh hs) : (bufM.slice (Rect.unit (s := S4x2x512x1024) (k0_off32 k) S1x1x512x1024.size hh) hs).squeeze S512x1024 squeezes_S1x1x512x1024_S512x1024 = rslot (slK k.val) 1 := rslot_congr (off32_eq k) _ _
@[sl_canon] theorem slotJ0 (k : Trip) (hh hs) : (bufM.slice (Rect.unit (s := S4x2x512x1024) (k0_off34 k) S1x1x512x1024.size hh) hs).squeeze S512x1024 squeezes_S1x1x512x1024_S512x1024 = rslot (slK k.val) 0 := rslot_congr (off34_eq k) _ _
@[sl_canon] theorem slotJ1 (k : Trip) (hh hs) : (bufM.slice (Rect.unit (s := S4x2x512x1024) (k0_off37 k) S1x1x512x1024.size hh) hs).squeeze S512x1024 squeezes_S1x1x512x1024_S512x1024 = rslot (slK k.val) 1 := rslot_congr (off37_eq k) _ _

@[sl_canon] theorem blkI0 (k : Trip) (hh hs) : wih0.slice (Rect.unit (s := S4096x1024) (k0_off30 k) S512x1024.size hh) hs = wblk wih0 (blK (k.val + 4)) := wblk_congr _ (off30_eq k) _ _
@[sl_canon] theorem blkI1 (k : Trip) (hh hs) : whh0.slice (Rect.unit (s := S4096x1024) (k0_off30 k) S512x1024.size hh) hs = wblk whh0 (blK (k.val + 4)) := wblk_congr _ (off30_eq k) _ _
@[sl_canon] theorem blkJ0 (k : Trip) (hh hs) : wih1.slice (Rect.unit (s := S4096x1024) (k0_off35 k) S512x1024.size hh) hs = wblk wih1 (blK (k.val + 4)) := wblk_congr _ (off35_eq k) _ _
@[sl_canon] theorem blkJ1 (k : Trip) (hh hs) : whh1.slice (Rect.unit (s := S4096x1024) (k0_off35 k) S512x1024.size hh) hs = wblk whh1 (blK (k.val + 4)) := wblk_congr _ (off35_eq k) _ _

@[sl_canon] theorem ncBlk (k : Trip) (hh hs) : (ncM.slice (Rect.unit (s := S2x128x1024) (k0_off21 k) S1x128x512.size hh) hs).squeeze S128x512 squeezes_S1x128x512_S128x512 = hblk ncM (stK k.val) := hblk_congr _ (off21_eq k) _ _
@[sl_canon] theorem ncsBlk (k : Trip) (hh hs) : (ncS.slice (Rect.unit (s := S2x128x1024) (k0_off21 k) S1x128x512.size hh) hs).squeeze S128x512 squeezes_S1x128x512_S128x512 = hblk ncS (stK k.val) := hblk_congr _ (off21_eq k) _ _
@[sl_canon] theorem nhBlk (k : Trip) (hh hs) : (nhM.slice (Rect.unit (s := S2x128x1024) (k0_off24 k) S1x128x512.size hh) hs).squeeze S128x512 squeezes_S1x128x512_S128x512 = hblk nhM (stK k.val) := hblk_congr _ (off24_eq k) _ _
@[sl_canon] theorem nhsBlk (k : Trip) (hh hs) : (nhS.slice (Rect.unit (s := S2x128x1024) (k0_off24 k) S1x128x512.size hh) hs).squeeze S128x512 squeezes_S1x128x512_S128x512 = hblk nhS (stK k.val) := hblk_congr _ (off24_eq k) _ _
@[sl_canon] theorem outBlk (k : Trip) (hh hs) : outM.slice (Rect.unit (s := S128x1024) (k0_off27 k) S128x512.size hh) hs = cblk outM (hfK k.val) := cblk_congr _ (off27_eq k) _ _
@[sl_canon] theorem outsBlk (k : Trip) (hh hs) : outS.slice (Rect.unit (s := S128x1024) (k0_off27 k) S128x512.size hh) hs = cblk outS (hfK k.val) := cblk_congr _ (off27_eq k) _ _

/-! The first four chunks, issued before the loop, and the epilogue's slices. -/

@[sl_canon] theorem semP00 (hh) : (cc0_scratch8.slice (Rect.unit (s := S4x2) ![0, 0] S1x1.size hh)).squeeze S_ squeezes_S1x1_S_ = csm 0 0 := csm_congr (by decide) _
@[sl_canon] theorem semP01 (hh) : (cc0_scratch8.slice (Rect.unit (s := S4x2) ![0, 1] S1x1.size hh)).squeeze S_ squeezes_S1x1_S_ = csm 0 1 := csm_congr (by decide) _
@[sl_canon] theorem semP10 (hh) : (cc0_scratch8.slice (Rect.unit (s := S4x2) ![1, 0] S1x1.size hh)).squeeze S_ squeezes_S1x1_S_ = csm 1 0 := csm_congr (by decide) _
@[sl_canon] theorem semP11 (hh) : (cc0_scratch8.slice (Rect.unit (s := S4x2) ![1, 1] S1x1.size hh)).squeeze S_ squeezes_S1x1_S_ = csm 1 1 := csm_congr (by decide) _
@[sl_canon] theorem semP20 (hh) : (cc0_scratch8.slice (Rect.unit (s := S4x2) ![2, 0] S1x1.size hh)).squeeze S_ squeezes_S1x1_S_ = csm 2 0 := csm_congr (by decide) _
@[sl_canon] theorem semP21 (hh) : (cc0_scratch8.slice (Rect.unit (s := S4x2) ![2, 1] S1x1.size hh)).squeeze S_ squeezes_S1x1_S_ = csm 2 1 := csm_congr (by decide) _
@[sl_canon] theorem semP30 (hh) : (cc0_scratch8.slice (Rect.unit (s := S4x2) ![3, 0] S1x1.size hh)).squeeze S_ squeezes_S1x1_S_ = csm 3 0 := csm_congr (by decide) _
@[sl_canon] theorem semP31 (hh) : (cc0_scratch8.slice (Rect.unit (s := S4x2) ![3, 1] S1x1.size hh)).squeeze S_ squeezes_S1x1_S_ = csm 3 1 := csm_congr (by decide) _
@[sl_canon] theorem slotP00 (hh hs) : (bufM.slice (Rect.unit (s := S4x2x512x1024) ![0, 0, 0, 0] S1x1x512x1024.size hh) hs).squeeze S512x1024 squeezes_S1x1x512x1024_S512x1024 = rslot 0 0 := rslot_congr (by decide) _ _
@[sl_canon] theorem slotP01 (hh hs) : (bufM.slice (Rect.unit (s := S4x2x512x1024) ![0, 1, 0, 0] S1x1x512x1024.size hh) hs).squeeze S512x1024 squeezes_S1x1x512x1024_S512x1024 = rslot 0 1 := rslot_congr (by decide) _ _
@[sl_canon] theorem slotP10 (hh hs) : (bufM.slice (Rect.unit (s := S4x2x512x1024) ![1, 0, 0, 0] S1x1x512x1024.size hh) hs).squeeze S512x1024 squeezes_S1x1x512x1024_S512x1024 = rslot 1 0 := rslot_congr (by decide) _ _
@[sl_canon] theorem slotP11 (hh hs) : (bufM.slice (Rect.unit (s := S4x2x512x1024) ![1, 1, 0, 0] S1x1x512x1024.size hh) hs).squeeze S512x1024 squeezes_S1x1x512x1024_S512x1024 = rslot 1 1 := rslot_congr (by decide) _ _
@[sl_canon] theorem slotP20 (hh hs) : (bufM.slice (Rect.unit (s := S4x2x512x1024) ![2, 0, 0, 0] S1x1x512x1024.size hh) hs).squeeze S512x1024 squeezes_S1x1x512x1024_S512x1024 = rslot 2 0 := rslot_congr (by decide) _ _
@[sl_canon] theorem slotP21 (hh hs) : (bufM.slice (Rect.unit (s := S4x2x512x1024) ![2, 1, 0, 0] S1x1x512x1024.size hh) hs).squeeze S512x1024 squeezes_S1x1x512x1024_S512x1024 = rslot 2 1 := rslot_congr (by decide) _ _
@[sl_canon] theorem slotP30 (hh hs) : (bufM.slice (Rect.unit (s := S4x2x512x1024) ![3, 0, 0, 0] S1x1x512x1024.size hh) hs).squeeze S512x1024 squeezes_S1x1x512x1024_S512x1024 = rslot 3 0 := rslot_congr (by decide) _ _
@[sl_canon] theorem slotP31 (hh hs) : (bufM.slice (Rect.unit (s := S4x2x512x1024) ![3, 1, 0, 0] S1x1x512x1024.size hh) hs).squeeze S512x1024 squeezes_S1x1x512x1024_S512x1024 = rslot 3 1 := rslot_congr (by decide) _ _
@[sl_canon] theorem blkP0 (M : Memref sig .tc .hbm S4096x1024 .f32) (hh hs) : M.slice (Rect.unit (s := S4096x1024) k0_off1 S512x1024.size hh) hs = wblk M 0 := wblk_congr _ off1_eq _ _
@[sl_canon] theorem blkP1 (M : Memref sig .tc .hbm S4096x1024 .f32) (hh hs) : M.slice (Rect.unit (s := S4096x1024) k0_off3 S512x1024.size hh) hs = wblk M 1 := wblk_congr _ off3_eq _ _
@[sl_canon] theorem blkP2 (M : Memref sig .tc .hbm S4096x1024 .f32) (hh hs) : M.slice (Rect.unit (s := S4096x1024) k0_off5 S512x1024.size hh) hs = wblk M 2 := wblk_congr _ off5_eq _ _
@[sl_canon] theorem blkP3 (M : Memref sig .tc .hbm S4096x1024 .f32) (hh hs) : M.slice (Rect.unit (s := S4096x1024) k0_off7 S512x1024.size hh) hs = wblk M 3 := wblk_congr _ off7_eq _ _

@[sl_canon] theorem osmE0 (hh) : (cc0_scratch9.slice (Rect.unit (s := S3) ![0] S1.size hh)).squeeze S_ squeezes_S1_S_ = osm 0 := osm_congr (by decide) _
@[sl_canon] theorem osmE1 (hh) : (cc0_scratch9.slice (Rect.unit (s := S3) ![1] S1.size hh)).squeeze S_ squeezes_S1_S_ = osm 1 := osm_congr (by decide) _
@[sl_canon] theorem osmE2 (hh) : (cc0_scratch9.slice (Rect.unit (s := S3) ![2] S1.size hh)).squeeze S_ squeezes_S1_S_ = osm 2 := osm_congr (by decide) _

end Canon

end Cert.Proof.KernelIdeal

end
-- ==== Proof.KernelIdealModel.lean ====
/-
  What the kernel computes, as plain arrays: the gates, the cell and the hidden state of one layer by halves of the
  columns, from the arrays the kernel is handed. Every value is the printed payload at the printed blocks.
-/
module

public import proofs.«01_k».proof.Proof.KernelIdealNames
public import Idealize.ShloMosaic.Lib.ValueIdxCore
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx

variable {F : FTy → Type} [FloatOps F]

/-- The arrays handed to the kernel. -/
structure Args (F : FTy → Type) where
  xt : Vec F S128x1024 .f32
  mf : Vec F S128x1 .f32
  h0 : Vec F S2x128x1024 .f32
  c0 : Vec F S2x128x1024 .f32
  bi : Vec F S2x4096 .f32
  wi : Fin 2 → Vec F S4096x1024 .f32
  wh : Fin 2 → Vec F S4096x1024 .f32

abbrev rW (b : Fin 8) : Rect S4096x1024 := Rect.unit (s := S4096x1024) (wOff b) S512x1024.size (wOff_inb b)
abbrev rL (l : Fin 2) : Rect S2x128x1024 := Rect.unit (s := S2x128x1024) (lOff l) S1x128x1024.size (lOff_inb l)
abbrev rH (j : Fin 4) : Rect S2x128x1024 := Rect.unit (s := S2x128x1024) (hOff j) S1x128x512.size (hOff_inb j)
abbrev rC (s : Fin 2) : Rect S128x1024 := Rect.unit (s := S128x1024) (cOff s) S128x512.size (cOff_inb s)
abbrev rB (l : Fin 2) (b : Fin 8) : Rect S2x4096 := Rect.unit (s := S2x4096) (bOff l b) S1x512.size (bOff_inb l b)

/-- Block `2·gate + half` of the weights' rows; block `2·layer + half` of the states. -/
abbrev gB (q : ℕ) (s : Fin 2) : Fin 8 := Fin.ofNat 8 (2 * q + s.val)
abbrev sB (l s : Fin 2) : Fin 4 := Fin.ofNat 4 (2 * l.val + s.val)

/-- A block of the weights as the kernel reads it from its slot. -/
def wv (W : Vec F S4096x1024 .f32) (b : Fin 8) : Vec F S1x1x512x1024 .f32 :=
  fun i => View.ld (Val := Elt F) (e' := .f32) W (rW b) (ix2 (i 2) (i 3))

/-- The layer's number as the word the kernel compares with zero. -/
def lw (l : Fin 2) : BitVec 32 := BitVec.ofNat 32 l.val

variable (A : Args F)

/-- The two products of block `b` of layer `l`, added and transposed; `h` is what the layer above the first reads. -/
def mm (h : Vec F S128x1024 .f32) (l : Fin 2) (b : Fin 8) : FVec F S128x512 .f32 :=
  k0_pay1 (lw l) (View.ld (Val := Elt F) (e' := .f32) A.h0 (rL l)) A.xt h (wv (A.wi l) b) (wv (A.wh l) b)
/-- The biases of block `b` of layer `l`. -/
def bv (l : Fin 2) (b : Fin 8) : Vec F S1x512 .f32 := View.ld (Val := Elt F) (e' := .f32) A.bi (rB l b)
def c0v (j : Fin 4) : Vec F S1x128x512 .f32 := View.ld (Val := Elt F) (e' := .f32) A.c0 (rH j)
def h0v (j : Fin 4) : Vec F S1x128x512 .f32 := View.ld (Val := Elt F) (e' := .f32) A.h0 (rH j)

/-- The input gate, the forget gate, `tanh` of the new cell, the new cell where the mask holds, the new hidden state
    (unmasked, and masked), of half `s` of layer `l`. -/
def igv (h : Vec F S128x1024 .f32) (l s : Fin 2) : FVec F S128x512 .f32 := k0_pay4 (mm A h l (gB 0 s)) (bv A l (gB 0 s))
def fgv (h : Vec F S128x1024 .f32) (l s : Fin 2) : FVec F S128x512 .f32 := k0_pay5 (mm A h l (gB 1 s)) (bv A l (gB 1 s))
def tcv (h : Vec F S128x1024 .f32) (l s : Fin 2) : FVec F S128x512 .f32 :=
  k0_pay7 (mm A h l (gB 2 s)) (bv A l (gB 2 s)) (fgv A h l s) (c0v A (sB l s)) (igv A h l s)
def ncv (h : Vec F S128x1024 .f32) (l s : Fin 2) : FVec F S1x128x512 .f32 :=
  k0_pay8 (mm A h l (gB 2 s)) (bv A l (gB 2 s)) A.mf (fgv A h l s) (c0v A (sB l s)) (igv A h l s) (c0v A (sB l s))
def nhv (h : Vec F S128x1024 .f32) (l s : Fin 2) : FVec F S1x128x512 .f32 :=
  k0_pay10 (mm A h l (gB 3 s)) (bv A l (gB 3 s)) A.mf (tcv A h l s) (h0v A (sB l s))
def hnv (h : Vec F S128x1024 .f32) (l s : Fin 2) : FVec F S128x512 .f32 :=
  k0_pay11 (mm A h l (gB 3 s)) (bv A l (gB 3 s)) (tcv A h l s)
def outv (h : Vec F S128x1024 .f32) (l s : Fin 2) : FVec F S128x512 .f32 :=
  k0_pay12 (mm A h l (gB 3 s)) (bv A l (gB 3 s)) A.mf (tcv A h l s)

/-- Two halves of the columns side by side. -/
def join {α : Type} (v : Fin 2 → S128x512.Idx → α) : S128x1024.Idx → α :=
  fun i => v (Fin.ofNat 2 ((i 1).val / 512)) (ix2 (i 0) (Fin.ofNat 512 ((i 1).val % 512)))
/-- The four blocks of a state array side by side. -/
def join4 {α : Type} (v : Fin 2 → Fin 2 → S1x128x512.Idx → α) : S2x128x1024.Idx → α :=
  fun i => v (i 0) (Fin.ofNat 2 ((i 2).val / 512)) (ix3 (0 : Fin 1) (i 1) (Fin.ofNat 512 ((i 2).val % 512)))

/-- The first layer's hidden state: what the second layer reads. -/
def h1v : Vec F S128x1024 .f32 := join (hnv A A.xt 0)
/-- What layer `l` reads beside the input (the first layer reads nothing there: any array will do). -/
abbrev hin (l : Fin 2) : Vec F S128x1024 .f32 := if l = 0 then A.xt else h1v A

/-- The three results: the masked output, the new hidden states, the new cells. -/
def Gout : Vec F S128x1024 .f32 := join (outv A (h1v A) 1)
def Gnh : Vec F S2x128x1024 .f32 := join4 fun l s => nhv A (hin A l) l s
def Gnc : Vec F S2x128x1024 .f32 := join4 fun l s => ncv A (hin A l) l s

/-- The first layer's products do not look at the hidden scratch. -/
theorem mm_zero (h h' : Vec F S128x1024 .f32) (b : Fin 8) : mm A h 0 b = mm A h' 0 b := rfl

end Cert.Proof.KernelIdeal

end
-- ==== Proof.KernelIdealPieces.lean ====
/-
  The resources the run is stated over: a slot of the weight buffer, a block of the weights at home, a block in flight
  into a slot.
-/
module

public import proofs.«01_k».proof.Proof.KernelIdealNames
public import Idealize.ShloMosaic.Lib.Pipeline.FrameSuffixV

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the run: the one of the launch, whose counters carry the transfers. -/
abbrev UU (nD : Nat) (τ : Topo) : Type := Pipeline.UD sig nD τ
local notation "𝕄" => MT nD τ sig Unit (Elt F) ℕ (UU nD τ) ℕ
abbrev 𝒱₀ : Variants := Variants.none

/-- The arrays the weights come from, by layer. -/
abbrev wih (l : Fin 2) : Memref sig .tc .hbm S4096x1024 .f32 := match l with | 0 => wih0 | 1 => wih1
abbrev whh (l : Fin 2) : Memref sig .tc .hbm S4096x1024 .f32 := match l with | 0 => whh0 | 1 => whh1

section Pieces
variable (c : Dev nD)

abbrev cellP (s : Fin 4) (i : Fin 2) : sProp 𝕄 := semVal ((c : Thread nD τ), SemLoc.dma (csm s i).sem) 0
abbrev ocellP (i : Fin 3) : sProp 𝕄 := semVal ((c : Thread nD τ), SemLoc.dma (osm i).sem) 0
abbrev slotP (s : Fin 4) (i : Fin 2) (f : Buf (Elt F) ((rslot s i).view.loc (c : Thread nD τ))) : sProp 𝕄 :=
  (rslot s i).view.loc (c : Thread nD τ) ↦[(rslot s i).view.set]{fullShare} f
/-- Block `b` of the weights `M` at home, at the array's contents. -/
abbrev homeP (M : Memref sig .tc .hbm S4096x1024 .f32) (X : Buf (Elt F) (M.view.loc (c : Thread nD τ))) (b : Fin 8) : sProp 𝕄 :=
  (wblk M b).view.loc (c : Thread nD τ) ↦[(wblk M b).view.set]{fullShare} X
/-- A block's words, as a slot receives them. -/
abbrev payload (M : Memref sig .tc .hbm S4096x1024 .f32) (X : Buf (Elt F) (M.view.loc (c : Thread nD τ))) (b : Fin 8) : S512x1024.Idx → Elt F .f32 :=
  ReadAs.same.apply ((wblk M b).view.read (Elt F) X)
abbrev landed (M : Memref sig .tc .hbm S4096x1024 .f32) (X : Buf (Elt F) (M.view.loc (c : Thread nD τ))) (s : Fin 4) (i : Fin 2) (b : Fin 8)
    (f : Buf (Elt F) ((rslot s i).view.loc (c : Thread nD τ))) : Buf (Elt F) ((rslot s i).view.loc (c : Thread nD τ)) :=
  (rslot s i).view.writes (Elt F) f [⟨Rect.whole S512x1024, payload c M X b⟩]
/-- What a block's transfer counts on its semaphore. -/
abbrev NN : ℕ := 65536
/-- Block `b` of `M` in flight into half `i` of slot `s`. -/
abbrev flightP (M : Memref sig .tc .hbm S4096x1024 .f32) (X : Buf (Elt F) (M.view.loc (c : Thread nD τ))) (s : Fin 4) (i : Fin 2) (b : Fin 8)
    (f : Buf (Elt F) ((rslot s i).view.loc (c : Thread nD τ))) : sProp 𝕄 :=
  Transfers.Flight (countersEmb (U := Pipeline.UD sig nD τ)) (c : Thread nD τ) (SemLoc.dma (csm s i).sem) () NN iprop(slotP c s i (landed c M X s i b f) ∗ homeP c M X b)

theorem amount_eq : (rslot 0 0).view.amount (.dma (csm 0 0).sem) = NN := by decide +kernel
theorem oamount_eq : (hblk ncM 0).view.amount (.dma (osm 0).sem) = 8192 := by decide +kernel
end Pieces

end Cert.Proof.KernelIdeal

end
-- ==== Proof.KernelIdealReads.lean ====
/-
  What a load reads of each buffer: a slot that a block landed in, a half of the columns after a store, a block of a
  state array after a store, the whole hidden scratch once both halves are there.
-/
module

public import proofs.«01_k».proof.Proof.KernelIdealModel
public import proofs.«01_k».proof.Proof.KernelIdealPieces
public import Idealize.ShloMosaic.Lib.ValueLayout
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- A load at a computed offset, of a buffer whose contents read `X`, is `X` at the closed form of the offset. -/
theorem load_at {sp : Space} {s : Shape} {e : EltTy} (M : Memref sig .tc sp s e) (x : M.view.ty.Contents (Elt F)) {X : s.Idx → Elt F e}
    (hX : M.view.read (Elt F) x = X) {off off' size : Fin s.rank → Nat} (heq : off = off')
    (h : ∀ a, off a + size a ≤ s.size a) (h' : ∀ a, off' a + size a ≤ s.size a) :
    M.view.readAt (Elt F) (Rect.unit off size h).toLoadRect x = View.ld (Val := Elt F) X (Rect.unit off' size h') := by
  subst heq; subst hX; rfl

/-- Two contents that read the same through a view hold the same of its elements. -/
theorem pts_of_read (c : Dev nD) {sp : Space} {s : Shape} {e : EltTy} (M : Memref sig .tc sp s e)
    (f g : Buf (Elt F) (M.view.loc (c : Thread nD τ))) (h : M.view.read (Elt F) f = M.view.read (Elt F) g) :
    (M.view.loc (c : Thread nD τ) ↦[M.view.set]{fullShare} f : sProp 𝕄) = M.view.loc (c : Thread nD τ) ↦[M.view.set]{fullShare} g :=
  (pointsTo_rep (c := (c : Thread nD τ)) M f fullShare).trans
    ((congrArg (fun X => (M.view.loc (c : Thread nD τ) ↦[M.view.set]{fullShare} M.view.rep X : sProp 𝕄)) h).trans
      (pointsTo_rep (c := (c : Thread nD τ)) M g fullShare).symm)

/-- A block that landed in a slot, loaded from the buffer. -/
theorem slot_read (s : Fin 4) (i : Fin 2) (f : (rslot s i).view.ty.Contents (Elt F)) (p : S512x1024.Idx → Elt F .f32) {off : Fin 4 → Nat}
    (heq : off = slotOff s i) (h : ∀ a, off a + S1x1x512x1024.size a ≤ S4x2x512x1024.size a) :
    bufM.view.readAt (Elt F) (Rect.unit (s := S4x2x512x1024) off S1x1x512x1024.size h).toLoadRect
      ((rslot s i).view.writes (Elt F) f [⟨Rect.whole S512x1024, p⟩]) = fun x => p (ix2 (x 2) (x 3)) := by
  subst heq
  funext x
  have h1 := congrFun (View.read_writes_whole (rslot s i).view f p) (ix2 (x 2) (x 3))
  rw [← h1]
  have hn : S512x1024.numel = S1x1x512x1024.numel := by decide
  have e : (Shape.reshapeEquiv (s := S1x1x512x1024) (s' := S512x1024) hn (ix2 (x 2) (x 3))) = x := by
    refine (reshapeEquiv_ix2_11ab hn (x 2) (x 3)).trans (funext fun a => ?_)
    match a with
    | ⟨0, _⟩ => exact Fin.ext (by have := (x 0).isLt; change (x 0).val < 1 at this; change 0 = (x 0).val; omega)
    | ⟨1, _⟩ => exact Fin.ext (by have := (x 1).isLt; change (x 1).val < 1 at this; change 0 = (x 1).val; omega)
    | ⟨2, _⟩ => rfl
    | ⟨3, _⟩ => rfl
  exact congrArg (fun z => bufM.view.read (Elt F) ((rslot s i).view.writes (Elt F) f [⟨Rect.whole S512x1024, p⟩])
    ((Rect.unit (s := S4x2x512x1024) (slotOff s i) S1x1x512x1024.size h).emb z)) e.symm

/-- The words of a block of the weights, read from the slot they landed in. -/
theorem payload_wv (c : Dev nD) (W : Vec F S4096x1024 .f32) (b : Fin 8) :
    ((fun x => payload (F := F) c wih0 W b (ix2 (x 2) (x 3))) : Vec F S1x1x512x1024 .f32) = wv W b
    ∧ ((fun x => payload (F := F) c whh0 W b (ix2 (x 2) (x 3))) : Vec F S1x1x512x1024 .f32) = wv W b
    ∧ ((fun x => payload (F := F) c wih1 W b (ix2 (x 2) (x 3))) : Vec F S1x1x512x1024 .f32) = wv W b
    ∧ ((fun x => payload (F := F) c whh1 W b (ix2 (x 2) (x 3))) : Vec F S1x1x512x1024 .f32) = wv W b :=
  ⟨rfl, rfl, rfl, rfl⟩

/-! ## Halves of the columns -/

theorem cols_same (M : Memref sig .tc .vmem S128x1024 .f32) (f : M.view.ty.Contents (Elt F)) (s : Fin 2) {off : Fin 2 → Nat} (heq : off = cOff s)
    (h : ∀ a, off a + S128x512.size a ≤ S128x1024.size a) (w : S128x512.Idx → Elt F .f32) :
    M.view.readAt (Elt F) (rC s).toLoadRect (M.view.writes (Elt F) f [⟨Rect.unit (s := S128x1024) off S128x512.size h, w⟩]) = w := by
  subst heq
  funext x
  rw [View.readAt_apply]
  exact View.read_writes_cons_unit_of_mem M.view f _ w [] _ x rfl fun a => congrArg (cOff s a + ·) (Nat.one_mul _)

theorem cols_other (M : Memref sig .tc .vmem S128x1024 .f32) (f : M.view.ty.Contents (Elt F)) (s t : Fin 2) (hst : s ≠ t) {off : Fin 2 → Nat}
    (heq : off = cOff t) (h : ∀ a, off a + S128x512.size a ≤ S128x1024.size a) (w : S128x512.Idx → Elt F .f32) :
    M.view.readAt (Elt F) (rC s).toLoadRect (M.view.writes (Elt F) f [⟨Rect.unit (s := S128x1024) off S128x512.size h, w⟩])
      = M.view.readAt (Elt F) (rC s).toLoadRect f := by
  funext x
  rw [View.readAt_apply, View.readAt_apply]
  refine View.read_writes_cons_unit_of_not_mem M.view f _ w [] _ heq (1 : Fin 2) ?_
  have hx : (x 1).val < 512 := (x 1).isLt
  have hst' : s.val ≠ t.val := fun e => hst (Fin.ext e)
  show 512 * s.val + 1 * (x 1).val < 512 * t.val ∨ 512 * t.val + 512 ≤ 512 * s.val + 1 * (x 1).val
  have := s.isLt; have := t.isLt
  omega

/-- The columns read whole are the two halves side by side. -/
theorem whole_of_halves (M : Memref sig .tc .vmem S128x1024 .f32) (f : M.view.ty.Contents (Elt F)) (v : Fin 2 → S128x512.Idx → Elt F .f32)
    (hv : ∀ s, M.view.readAt (Elt F) (rC s).toLoadRect f = v s) (h : ∀ a, (![0, 0] : Fin 2 → Nat) a + S128x1024.size a ≤ S128x1024.size a) :
    M.view.readAt (Elt F) (Rect.unit (s := S128x1024) ![0, 0] S128x1024.size h).toLoadRect f = join v := by
  funext i
  unfold join
  rw [← hv]
  refine congrArg (M.view.read (Elt F) f) (funext fun a => Fin.ext ?_)
  have h1 : (i 1).val < 1024 := (i 1).isLt
  match a with
  | ⟨0, _⟩ => show 0 + 1 * (i 0).val = 0 + 1 * (i 0).val; rfl
  | ⟨1, _⟩ =>
    show 0 + 1 * (i 1).val = 512 * ((i 1).val / 512 % 2) + 1 * ((i 1).val % 512 % 512)
    omega

/-! ## Blocks of a state array and of the output -/

theorem hblk_store {sp : Space} (M : Memref sig .tc sp S2x128x1024 .f32) (f : M.view.ty.Contents (Elt F)) (j : Fin 4) {off : Fin 3 → Nat} (heq : off = hOff j)
    (h : ∀ a, off a + S1x128x512.size a ≤ S2x128x1024.size a) (w : S1x128x512.Idx → Elt F .f32) :
    (hblk M j).view.read (Elt F) (M.view.writes (Elt F) f [⟨Rect.unit (s := S2x128x1024) off S1x128x512.size h, w⟩])
      = fun y => w (ix3 (0 : Fin 1) (y 0) (y 1)) := by
  subst heq
  funext y
  have e : (Shape.reshapeEquiv (s := S1x128x512) (s' := S128x512) (by decide) y) = ix3 (0 : Fin 1) (y 0) (y 1) := by
    conv_lhs => rw [eq_ix2 y]
    exact reshapeEquiv_ix2_1ab _ _ _
  exact (View.read_writes_cons_unit_of_mem M.view f _ w [] _ (Shape.reshapeEquiv (s := S1x128x512) (s' := S128x512) (by decide) y) rfl fun a => by
    exact congrArg (hOff j a + ·) (Nat.one_mul _)).trans (congrArg w e)

theorem hblk_read {sp : Space} (M : Memref sig .tc sp S2x128x1024 .f32) (f : M.view.ty.Contents (Elt F)) (j : Fin 4) :
    (hblk M j).view.read (Elt F) f = fun y => M.view.read (Elt F) f ((rH j).emb (ix3 (0 : Fin 1) (y 0) (y 1))) := by
  funext y
  have e : (Shape.reshapeEquiv (s := S1x128x512) (s' := S128x512) (by decide) y) = ix3 (0 : Fin 1) (y 0) (y 1) := by
    conv_lhs => rw [eq_ix2 y]
    exact reshapeEquiv_ix2_1ab _ _ _
  exact congrArg (fun z => M.view.read (Elt F) f ((rH j).emb z)) e

theorem cblk_store {sp : Space} (M : Memref sig .tc sp S128x1024 .f32) (f : M.view.ty.Contents (Elt F)) (s : Fin 2) {off : Fin 2 → Nat} (heq : off = cOff s)
    (h : ∀ a, off a + S128x512.size a ≤ S128x1024.size a) (w : S128x512.Idx → Elt F .f32) :
    (cblk M s).view.read (Elt F) (M.view.writes (Elt F) f [⟨Rect.unit (s := S128x1024) off S128x512.size h, w⟩]) = w := by
  subst heq
  funext y
  exact View.read_writes_cons_unit_of_mem M.view f _ w [] _ y rfl fun a => by
    show cOff s a + 1 * _ = cOff s a + _
    rw [Nat.one_mul]

theorem join4_blk {α : Type} (v : Fin 2 → Fin 2 → S1x128x512.Idx → α) (j : Fin 4) (y : S128x512.Idx) :
    join4 v ((rH j).emb (ix3 (0 : Fin 1) (y 0) (y 1))) = v (Fin.ofNat 2 (j.val / 2)) (Fin.ofNat 2 j.val) (ix3 (0 : Fin 1) (y 0) (y 1)) := by
  have hy : (y 1).val < 512 := (y 1).isLt
  have hj := j.isLt
  have e0 : (((rH j).emb (ix3 (0 : Fin 1) (y 0) (y 1))) 0 : Fin 2) = Fin.ofNat 2 (j.val / 2) := Fin.ext (by
    show j.val / 2 + 1 * 0 = j.val / 2 % 2; omega)
  have e2 : (((rH j).emb (ix3 (0 : Fin 1) (y 0) (y 1))) 2).val = 512 * (j.val % 2) + (y 1).val := by
    show 512 * (j.val % 2) + 1 * (y 1).val = _; omega
  have e1 : (((rH j).emb (ix3 (0 : Fin 1) (y 0) (y 1))) 1 : Fin 128) = y 0 := Fin.ext (by show 0 + 1 * (y 0).val = _; omega)
  unfold join4
  rw [e2, e1]
  have a1 : (Fin.ofNat 2 ((512 * (j.val % 2) + (y 1).val) / 512) : Fin 2) = Fin.ofNat 2 j.val := Fin.ext (by
    show (512 * (j.val % 2) + (y 1).val) / 512 % 2 = j.val % 2; omega)
  have a2 : (Fin.ofNat 512 ((512 * (j.val % 2) + (y 1).val) % 512) : Fin 512) = y 1 := Fin.ext (by
    show (512 * (j.val % 2) + (y 1).val) % 512 % 512 = (y 1).val; omega)
  rw [a1, a2]
  exact congrArg (fun l => v l (Fin.ofNat 2 j.val) (ix3 (0 : Fin 1) (y 0) (y 1))) e0

theorem join_blk {α : Type} (v : Fin 2 → S128x512.Idx → α) (s : Fin 2) (y : S128x512.Idx) : join v ((rC s).emb y) = v s y := by
  have hy : (y 1).val < 512 := (y 1).isLt
  have hs := s.isLt
  have e1 : (((rC s).emb y) 1).val = 512 * s.val + (y 1).val := by show 512 * s.val + 1 * (y 1).val = _; omega
  have e0 : (((rC s).emb y) 0 : Fin 128) = y 0 := Fin.ext (by show 0 + 1 * (y 0).val = _; omega)
  unfold join
  rw [e1, e0]
  have a1 : (Fin.ofNat 2 ((512 * s.val + (y 1).val) / 512) : Fin 2) = s := Fin.ext (by
    show (512 * s.val + (y 1).val) / 512 % 2 = s.val; omega)
  have a2 : (Fin.ofNat 512 ((512 * s.val + (y 1).val) % 512) : Fin 512) = y 1 := Fin.ext (by
    show (512 * s.val + (y 1).val) % 512 % 512 = (y 1).val; omega)
  rw [a1, a2]
  exact congrArg (v s) (eq_ix2 y).symm

end Cert.Proof.KernelIdeal

end
-- ==== Proof.KernelIdealHeld.lean ====
/-
  What the scratch buffers hold between the trips, and how a trip's store carries it to the next: the input gate after
  trips 0 and 1 of a layer, the forget gate after 2 and 3, `tanh` of the cell after 4 and 5, and the first layer's
  hidden state after trips 6 and 7 of the first layer.
-/
module

public import proofs.«01_k».proof.Proof.KernelIdealReads

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx

variable {F : FTy → Type} [FloatOps F]

/-- After `n` steps, of which those from `lo` on fill the two halves: half `s` is there once step `lo + s` is done. -/
def Held (M : Memref sig .tc .vmem S128x1024 .f32) (lo n : ℕ) (v : Fin 2 → S128x512.Idx → Elt F .f32) (f : M.view.ty.Contents (Elt F)) : Prop :=
  ∀ s : Fin 2, lo + s.val < n → M.view.readAt (Elt F) (rC s).toLoadRect f = v s

section Held
variable {M : Memref sig .tc .vmem S128x1024 .f32} {lo n : ℕ} {v : Fin 2 → S128x512.Idx → Elt F .f32} {f : M.view.ty.Contents (Elt F)}

theorem Held.zero (h : n ≤ lo) : Held M lo n v f := fun s hs => absurd hs (by omega)

theorem Held.keep (H : Held M lo n v f) (h : n + 1 ≤ lo ∨ lo + 2 ≤ n) : Held M lo (n + 1) v f :=
  fun s hs => H s (by have := s.isLt; omega)

theorem Held.store (H : Held M lo n v f) (s₀ : Fin 2) (hn : n = lo + s₀.val) {off : Fin 2 → Nat} (heq : off = cOff s₀)
    (h : ∀ a, off a + S128x512.size a ≤ S128x1024.size a) {w : S128x512.Idx → Elt F .f32} (hw : w = v s₀) :
    Held M lo (n + 1) v (M.view.writes (Elt F) f [⟨Rect.unit (s := S128x1024) off S128x512.size h, w⟩]) := fun s hs => by
  by_cases e : s = s₀
  · subst e; rw [cols_same M f s heq h w, hw]
  · rw [cols_other M f s s₀ e heq h w]
    refine H s ?_
    have : s.val ≠ s₀.val := fun h => e (Fin.ext h)
    omega

theorem Held.read (H : Held M lo n v f) (s : Fin 2) (hs : lo + s.val < n) {off : Fin 2 → Nat} (heq : off = cOff s)
    (h : ∀ a, off a + S128x512.size a ≤ S128x1024.size a) :
    M.view.readAt (Elt F) (Rect.unit (s := S128x1024) off S128x512.size h).toLoadRect f = v s := by
  subst heq; exact H s hs

theorem Held.whole (H : Held M lo n v f) (hn : lo + 2 ≤ n) (h : ∀ a, (![0, 0] : Fin 2 → Nat) a + S128x1024.size a ≤ S128x1024.size a) :
    M.view.readAt (Elt F) (Rect.unit (s := S128x1024) ![0, 0] S128x1024.size h).toLoadRect f = join v :=
  whole_of_halves M f v (fun s => H s (by have := s.isLt; omega)) h
end Held

variable (A : Args F)

/-- What the four scratch buffers hold before trip `k`. -/
structure Scr (k : ℕ) (f1 : igM.view.ty.Contents (Elt F)) (f2 : fgM.view.ty.Contents (Elt F)) (f3 : tcM.view.ty.Contents (Elt F))
    (f4 : h1M.view.ty.Contents (Elt F)) : Prop where
  ig : Held igM 0 (k % 8) (igv A (hin A (lyK k)) (lyK k)) f1
  fg : Held fgM 2 (k % 8) (fgv A (hin A (lyK k)) (lyK k)) f2
  tc : Held tcM 4 (k % 8) (tcv A (hin A (lyK k)) (lyK k)) f3
  h1 : Held h1M 6 k (hnv A A.xt 0) f4

theorem Scr.zero (f1 f2 f3 f4) : Scr A 0 f1 f2 f3 f4 :=
  ⟨Held.zero (by omega), Held.zero (by omega), Held.zero (by omega), Held.zero (by omega)⟩

/-- A layer's halves carried over to the next trip: to the next step of the same layer, or to the start of the next. -/
theorem held_succ {M : Memref sig .tc .vmem S128x1024 .f32} {lo k : ℕ} {v : Fin 2 → Fin 2 → S128x512.Idx → Elt F .f32} {f : M.view.ty.Contents (Elt F)}
    (H : Held M lo (k % 8 + 1) (v (lyK k)) f) : Held M lo ((k + 1) % 8) (v (lyK (k + 1))) f := by
  by_cases h : k % 8 = 7
  · have e : (k + 1) % 8 = 0 := by omega
    rw [e]; exact Held.zero (Nat.zero_le _)
  · have e : (k + 1) % 8 = k % 8 + 1 := by omega
    have e' : lyK (k + 1) = lyK k := Fin.ext (by show (k + 1) / 8 % 2 = k / 8 % 2; omega)
    rw [e, e']; exact H

section Steps
variable {A} {k : ℕ} {f1 : igM.view.ty.Contents (Elt F)} {f2 : fgM.view.ty.Contents (Elt F)} {f3 : tcM.view.ty.Contents (Elt F)}
  {f4 : h1M.view.ty.Contents (Elt F)} {off : Fin 2 → Nat} {w : S128x512.Idx → Elt F .f32}

theorem Scr.step0 (S : Scr A k f1 f2 f3 f4) (hq : k % 8 / 2 = 0) (heq : off = cOff (hfK k)) (h : ∀ a, off a + S128x512.size a ≤ S128x1024.size a)
    (hw : w = igv A (hin A (lyK k)) (lyK k) (hfK k)) :
    Scr A (k + 1) (igM.view.writes (Elt F) f1 [⟨Rect.unit (s := S128x1024) off S128x512.size h, w⟩]) f2 f3 f4 where
  ig := held_succ (v := fun l => igv A (hin A l) l) (S.ig.store (hfK k) (by show k % 8 = 0 + k % 2; omega) heq h hw)
  fg := held_succ (v := fun l => fgv A (hin A l) l) (S.fg.keep (by omega))
  tc := held_succ (v := fun l => tcv A (hin A l) l) (S.tc.keep (by omega))
  h1 := S.h1.keep (by omega)

theorem Scr.step1 (S : Scr A k f1 f2 f3 f4) (hq : k % 8 / 2 = 1) (heq : off = cOff (hfK k)) (h : ∀ a, off a + S128x512.size a ≤ S128x1024.size a)
    (hw : w = fgv A (hin A (lyK k)) (lyK k) (hfK k)) :
    Scr A (k + 1) f1 (fgM.view.writes (Elt F) f2 [⟨Rect.unit (s := S128x1024) off S128x512.size h, w⟩]) f3 f4 where
  ig := held_succ (v := fun l => igv A (hin A l) l) (S.ig.keep (by omega))
  fg := held_succ (v := fun l => fgv A (hin A l) l) (S.fg.store (hfK k) (by show k % 8 = 2 + k % 2; omega) heq h hw)
  tc := held_succ (v := fun l => tcv A (hin A l) l) (S.tc.keep (by omega))
  h1 := S.h1.keep (by omega)

theorem Scr.step2 (S : Scr A k f1 f2 f3 f4) (hq : k % 8 / 2 = 2) (heq : off = cOff (hfK k)) (h : ∀ a, off a + S128x512.size a ≤ S128x1024.size a)
    (hw : w = tcv A (hin A (lyK k)) (lyK k) (hfK k)) :
    Scr A (k + 1) f1 f2 (tcM.view.writes (Elt F) f3 [⟨Rect.unit (s := S128x1024) off S128x512.size h, w⟩]) f4 where
  ig := held_succ (v := fun l => igv A (hin A l) l) (S.ig.keep (by omega))
  fg := held_succ (v := fun l => fgv A (hin A l) l) (S.fg.keep (by omega))
  tc := held_succ (v := fun l => tcv A (hin A l) l) (S.tc.store (hfK k) (by show k % 8 = 4 + k % 2; omega) heq h hw)
  h1 := S.h1.keep (by omega)

theorem Scr.step3 (S : Scr A k f1 f2 f3 f4) (hq : k % 8 / 2 = 3) (hl : k / 8 = 0) (heq : off = cOff (hfK k))
    (h : ∀ a, off a + S128x512.size a ≤ S128x1024.size a) (hw : w = hnv A A.xt 0 (hfK k)) :
    Scr A (k + 1) f1 f2 f3 (h1M.view.writes (Elt F) f4 [⟨Rect.unit (s := S128x1024) off S128x512.size h, w⟩]) where
  ig := held_succ (v := fun l => igv A (hin A l) l) (S.ig.keep (by omega))
  fg := held_succ (v := fun l => fgv A (hin A l) l) (S.fg.keep (by omega))
  tc := held_succ (v := fun l => tcv A (hin A l) l) (S.tc.keep (by omega))
  h1 := S.h1.store (hfK k) (by show k = 6 + k % 2; omega) heq h hw

theorem Scr.step3' (S : Scr A k f1 f2 f3 f4) (hq : k % 8 / 2 = 3) (hl : k / 8 = 1) : Scr A (k + 1) f1 f2 f3 f4 where
  ig := held_succ (v := fun l => igv A (hin A l) l) (S.ig.keep (by omega))
  fg := held_succ (v := fun l => fgv A (hin A l) l) (S.fg.keep (by omega))
  tc := held_succ (v := fun l => tcv A (hin A l) l) (S.tc.keep (by omega))
  h1 := S.h1.keep (by omega)

/-- The products of a trip: the payload at the words the trip loads. -/
theorem Scr.mm (S : Scr A k f1 f2 f3 f4) (hk : k < 16) {b : BitVec 32} {a : Vec F S1x128x1024 .f32} {x h : Vec F S128x1024 .f32}
    {u v : Vec F S1x1x512x1024 .f32} (hh : ∀ a, (![0, 0] : Fin 2 → Nat) a + S128x1024.size a ≤ S128x1024.size a)
    (hb : b = lw (lyK k)) (ha : a = View.ld (Val := Elt F) (e' := .f32) A.h0 (rL (lyK k))) (hx : x = A.xt)
    (hhv : h = h1M.view.readAt (Elt F) (Rect.unit (s := S128x1024) ![0, 0] S128x1024.size hh).toLoadRect f4)
    (hu : u = wv (A.wi (lyK k)) (blK k)) (hv : v = wv (A.wh (lyK k)) (blK k)) :
    k0_pay1 b a x h u v = KernelIdeal.mm A (hin A (lyK k)) (lyK k) (blK k) := by
  subst hb ha hx hu hv
  by_cases h8 : k < 8
  · have e : lyK k = 0 := Fin.ext (by show k / 8 % 2 = 0; omega)
    rw [e]; rfl
  · have e : lyK k = 1 := Fin.ext (by show k / 8 % 2 = 1; omega)
    rw [hhv, S.h1.whole (by omega) hh, e]; rfl
end Steps

/-! ## The blocks of the indices -/

theorem gB_eq {k q : ℕ} (hq : k % 8 / 2 = q) : gB q (hfK k) = blK k := Fin.ext (by show (2 * q + k % 2) % 8 = k % 8; omega)
theorem sB_eq {k : ℕ} (hk : k < 16) : sB (lyK k) (hfK k) = stK k := Fin.ext (by
  show (2 * (k / 8 % 2) + k % 2) % 4 = (2 * (k / 8) + k % 2) % 4; omega)
theorem stK_div {k : ℕ} (hk : k < 16) : (Fin.ofNat 2 ((stK k).val / 2) : Fin 2) = lyK k := Fin.ext (by
  show (2 * (k / 8) + k % 2) % 4 / 2 % 2 = k / 8 % 2; omega)
theorem stK_mod {k : ℕ} (hk : k < 16) : (Fin.ofNat 2 (stK k).val : Fin 2) = hfK k := Fin.ext (by
  show (2 * (k / 8) + k % 2) % 4 % 2 = k % 2; omega)

/-! ## The blocks of the results -/

theorem Gnc_blk (k : ℕ) (hk : k < 16) :
    (fun y : S128x512.Idx => Gnc A ((rH (stK k)).emb (ix3 (0 : Fin 1) (y 0) (y 1))))
      = fun y => ncv A (hin A (lyK k)) (lyK k) (hfK k) (ix3 (0 : Fin 1) (y 0) (y 1)) := by
  funext y; unfold Gnc; rw [join4_blk, stK_div hk, stK_mod hk]
theorem Gnh_blk (k : ℕ) (hk : k < 16) :
    (fun y : S128x512.Idx => Gnh A ((rH (stK k)).emb (ix3 (0 : Fin 1) (y 0) (y 1))))
      = fun y => nhv A (hin A (lyK k)) (lyK k) (hfK k) (ix3 (0 : Fin 1) (y 0) (y 1)) := by
  funext y; unfold Gnh; rw [join4_blk, stK_div hk, stK_mod hk]
theorem Gout_blk (s : Fin 2) : (fun y : S128x512.Idx => Gout A ((rC s).emb y)) = outv A (h1v A) 1 s := by
  funext y; unfold Gout; rw [join_blk]

end Cert.Proof.KernelIdeal

end
-- ==== Proof.KernelIdealStage.lean ====
/-
  What a trip of the loop starts from and what it leaves, and the values it computes from the words it loads.
-/
module

public import proofs.«01_k».proof.Proof.KernelIdealHeld

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip
variable (c : Dev nD) (A : Args F)
  (arg0 : Memref sig .tc .vmem S128x1024 .f32) (harg0 : arg0.IsWhole) (arg1 : Memref sig .tc .vmem S128x1 .f32) (harg1 : arg1.IsWhole)
  (arg2 : Memref sig .tc .vmem S2x128x1024 .f32) (harg2 : arg2.IsWhole) (arg3 : Memref sig .tc .vmem S2x128x1024 .f32) (harg3 : arg3.IsWhole)
  (arg8 : Memref sig .tc .vmem S2x4096 .f32) (harg8 : arg8.IsWhole)

/-- The loop's body at the kernel's buffers. -/
abbrev tripG (k : Trip) : Prog (TpuEff nD τ sig (Elt F) Λ₀ .tc) Unit :=
  k0_t1_body (F := F) arg0 harg0 arg1 harg1 arg2 harg2 arg3 harg3 wih0 (Memref.isWhole_whole _) whh0 (Memref.isWhole_whole _) wih1 (Memref.isWhole_whole _) whh1 (Memref.isWhole_whole _) arg8 harg8
    outM (Memref.isWhole_whole _) nhM (Memref.isWhole_whole _) ncM (Memref.isWhole_whole _) bufM (Memref.isWhole_whole _) igM (Memref.isWhole_whole _) fgM (Memref.isWhole_whole _) tcM (Memref.isWhole_whole _) h1M (Memref.isWhole_whole _)
    nhS (Memref.isWhole_whole _) ncS (Memref.isWhole_whole _) outS (Memref.isWhole_whole _) cc0_scratch8 cc0_scratch9 k ()

/-- A buffer held whole. -/
abbrev stP {s : Shape} (M : Memref sig .tc .vmem s .f32) (f : Buf (Elt F) (M.view.loc (c : Thread nD τ))) : sProp 𝕄 :=
  M.view.loc (c : Thread nD τ) ↦[M.view.set]{fullShare} f

/-- The staged arrays read as the arguments. -/
structure Reads (x0 : arg0.view.ty.Contents (Elt F)) (x1 : arg1.view.ty.Contents (Elt F)) (x2 : arg2.view.ty.Contents (Elt F))
    (x3 : arg3.view.ty.Contents (Elt F)) (x8 : arg8.view.ty.Contents (Elt F)) : Prop where
  xt : arg0.view.read (Elt F) x0 = A.xt
  mf : arg1.view.read (Elt F) x1 = A.mf
  h0 : arg2.view.read (Elt F) x2 = A.h0
  c0 : arg3.view.read (Elt F) x3 = A.c0
  bi : arg8.view.read (Elt F) x8 = A.bi

variable (x0 : arg0.view.ty.Contents (Elt F)) (x1 : arg1.view.ty.Contents (Elt F)) (x2 : arg2.view.ty.Contents (Elt F))
    (x3 : arg3.view.ty.Contents (Elt F)) (x8 : arg8.view.ty.Contents (Elt F))

abbrev stagedP : sProp 𝕄 :=
  iprop(stP c arg0 x0 ∗ stP c arg1 x1 ∗ stP c arg2 x2 ∗ stP c arg3 x3 ∗ stP c arg8 x8)

abbrev scratchP (k : ℕ) : sProp 𝕄 :=
  iprop(∃ f1 f2 f3 f4, ⌜Scr A k f1 f2 f3 f4⌝ ∗ stP c igM f1 ∗ stP c fgM f2 ∗ stP c tcM f3 ∗ stP c h1M f4)

/-- The two blocks of the weights of trip `k`: at home, and in flight into their slot. -/
def homeK (k : ℕ) : sProp 𝕄 :=
  if k < 8 then iprop(homeP c wih0 (A.wi 0) (blK k) ∗ homeP c whh0 (A.wh 0) (blK k))
  else iprop(homeP c wih1 (A.wi 1) (blK k) ∗ homeP c whh1 (A.wh 1) (blK k))
def flyS (s : Fin 4) (k : ℕ) : sProp 𝕄 :=
  if k < 8 then iprop(∃ f0 f1, flightP c wih0 (A.wi 0) s 0 (blK k) f0 ∗ flightP c whh0 (A.wh 0) s 1 (blK k) f1)
  else iprop(∃ f0 f1, flightP c wih1 (A.wi 1) s 0 (blK k) f0 ∗ flightP c whh1 (A.wh 1) s 1 (blK k) f1)
abbrev flyK (k : ℕ) : sProp 𝕄 := flyS c A (slK k) k
/-- A slot with nothing in flight. -/
def freeK (s : Fin 4) : sProp 𝕄 :=
  iprop(∃ f0 f1, slotP (F := F) c s 0 f0 ∗ slotP (F := F) c s 1 f1 ∗ cellP (F := F) c s 0 ∗ cellP (F := F) c s 1)
/-- What trip `k` finds of the trip four later, and what it leaves of it. -/
def nextIn (k : ℕ) : sProp 𝕄 := if k < 12 then homeK c A (k + 4) else iprop(emp)
def nextOut (k : ℕ) : sProp 𝕄 := if k < 12 then flyS c A (slK k) (k + 4) else freeK (F := F) c (slK k)
def owesP : sProp 𝕄 := iprop(∃ W, owes (c : Thread nD τ) 0 W)

theorem slK_add (k : ℕ) : slK (k + 4) = slK k := Fin.ext (by show (k + 4) % 4 = k % 4; omega)

/-- Where a trip stands: which layer's blocks it works on and which layer's it sends for. -/
theorem caseK (k : Trip) :
    (k.val < 4 ∧ k0_cond15 k = 1#1 ∧ k0_cond16 k = 1#1 ∧ ¬ k0_cond17 k = 1#1 ∧ lyK k.val = 0
        ∧ (k.val < 8) = True ∧ (k.val + 4 < 8) = True ∧ (k.val < 12) = True)
    ∨ ((4 ≤ k.val ∧ k.val < 8) ∧ k0_cond15 k = 1#1 ∧ ¬ k0_cond16 k = 1#1 ∧ k0_cond17 k = 1#1 ∧ lyK k.val = 0
        ∧ (k.val < 8) = True ∧ (k.val + 4 < 8) = False ∧ (k.val < 12) = True)
    ∨ ((8 ≤ k.val ∧ k.val < 12) ∧ k0_cond15 k = 1#1 ∧ ¬ k0_cond16 k = 1#1 ∧ k0_cond17 k = 1#1 ∧ lyK k.val = 1
        ∧ (k.val < 8) = False ∧ (k.val + 4 < 8) = False ∧ (k.val < 12) = True)
    ∨ ((12 ≤ k.val ∧ k.val < 16) ∧ ¬ k0_cond15 k = 1#1 ∧ True ∧ True ∧ lyK k.val = 1
        ∧ (k.val < 8) = False ∧ (k.val + 4 < 8) = False ∧ (k.val < 12) = False) := by
  have hk := trip_lt k
  have l0 : k.val < 8 → lyK k.val = 0 := fun h => Fin.ext (by show k.val / 8 % 2 = 0; omega)
  have l1 : 8 ≤ k.val → lyK k.val = 1 := fun h => Fin.ext (by show k.val / 8 % 2 = 1; omega)
  have t15 : k.val < 12 → k0_cond15 k = 1#1 := fun h => (cond15_iff k).2 (by omega)
  have t17 : 4 ≤ k.val → k.val < 12 → k0_cond17 k = 1#1 := fun h h' => (cond17_iff k).2 (by omega)
  have n16 : 4 ≤ k.val → ¬ k0_cond16 k = 1#1 := fun h h' => by have := (cond16_iff k).1 h'; omega
  rcases (by omega : k.val < 4 ∨ (4 ≤ k.val ∧ k.val < 8) ∨ (8 ≤ k.val ∧ k.val < 12) ∨ (12 ≤ k.val ∧ k.val < 16)) with h | h | h | h
  · exact .inl ⟨h, t15 (by omega), (cond16_iff k).2 (by omega), fun h' => by have := (cond17_iff k).1 h'; omega, l0 (by omega),
      eq_true (by omega), eq_true (by omega), eq_true (by omega)⟩
  · exact .inr (.inl ⟨h, t15 (by omega), n16 (by omega), t17 (by omega) (by omega), l0 (by omega),
      eq_true (by omega), eq_false (by omega), eq_true (by omega)⟩)
  · exact .inr (.inr (.inl ⟨h, t15 (by omega), n16 (by omega), t17 (by omega) (by omega), l1 (by omega),
      eq_false (by omega), eq_false (by omega), eq_true (by omega)⟩))
  · exact .inr (.inr (.inr ⟨h, fun h' => by have := (cond15_iff k).1 h'; omega, trivial, trivial, l1 (by omega),
      eq_false (by omega), eq_false (by omega), eq_false (by omega)⟩))

/-! ## The results' blocks on their way out -/

/-- Block `j` of a state array; half `s` of the columns of an output. -/
abbrev hpts {sp : Space} (M : Memref sig .tc sp S2x128x1024 .f32) (j : Fin 4) (f : Buf (Elt F) ((hblk M j).view.loc (c : Thread nD τ))) : sProp 𝕄 :=
  (hblk M j).view.loc (c : Thread nD τ) ↦[(hblk M j).view.set]{fullShare} f
abbrev cpts {sp : Space} (M : Memref sig .tc sp S128x1024 .f32) (s : Fin 2) (f : Buf (Elt F) ((cblk M s).view.loc (c : Thread nD τ))) : sProp 𝕄 :=
  (cblk M s).view.loc (c : Thread nD τ) ↦[(cblk M s).view.set]{fullShare} f

/-- Before its trip a block is held at anything, in the result and in the buffer it is computed in; -/
def pairC (j : Fin 4) : sProp 𝕄 := iprop(∃ f g, hpts (F := F) c ncM j f ∗ hpts (F := F) c ncS j g)
def pairH (j : Fin 4) : sProp 𝕄 := iprop(∃ f g, hpts (F := F) c nhM j f ∗ hpts (F := F) c nhS j g)
def pairO (s : Fin 2) : sProp 𝕄 := iprop(∃ f g, cpts (F := F) c outM s f ∗ cpts (F := F) c outS s g)
/-- once sent it comes back at the result's values, in both. -/
def doneC (j : Fin 4) : sProp 𝕄 := iprop(hpts c ncM j (Gnc A) ∗ hpts c ncS j (Gnc A))
def doneH (j : Fin 4) : sProp 𝕄 := iprop(hpts c nhM j (Gnh A) ∗ hpts c nhS j (Gnh A))
def doneO (s : Fin 2) : sProp 𝕄 := iprop(cpts c outM s (Gout A) ∗ cpts c outS s (Gout A))
/-- The first `n` blocks of a result sent, none waited for. -/
abbrev sentC (n : ℕ) : sProp 𝕄 := Transfers.Batch (countersEmb (U := Pipeline.UD sig nD τ)) (c : Thread nD τ) (SemLoc.dma (osm 0).sem) () 8192 (doneC c A) n 0
abbrev sentH (n : ℕ) : sProp 𝕄 := Transfers.Batch (countersEmb (U := Pipeline.UD sig nD τ)) (c : Thread nD τ) (SemLoc.dma (osm 1).sem) () 8192 (doneH c A) n 0
abbrev sentO (n : ℕ) : sProp 𝕄 := Transfers.Batch (countersEmb (U := Pipeline.UD sig nD τ)) (c : Thread nD τ) (SemLoc.dma (osm 2).sem) () 8192 (doneO c A) n 0

theorem deliverC (k : ℕ) (hk : k < 16) {fs : Buf (Elt F) ((hblk ncS (stK k)).view.loc (c : Thread nD τ))} {fd : Buf (Elt F) ((hblk ncM (stK k)).view.loc (c : Thread nD τ))}
    (h : (hblk ncS (stK k)).view.read (Elt F) fs = fun y => ncv A (hin A (lyK k)) (lyK k) (hfK k) (ix3 (0 : Fin 1) (y 0) (y 1))) :
    iprop(hpts c ncM (stK k) ((hblk ncM (stK k)).view.write (Elt F) fd (ReadAs.same.apply ((hblk ncS (stK k)).view.read (Elt F) fs)) Finset.univ)
      ∗ hpts c ncS (stK k) fs) ⊢ doneC c A (stK k) := by
  have eM : (hblk ncM (stK k)).view.read (Elt F) (Gnc A) = _ := (hblk_read ncM (Gnc A) (stK k)).trans (Gnc_blk A k hk)
  have eS : (hblk ncS (stK k)).view.read (Elt F) (Gnc A) = _ := (hblk_read ncS (Gnc A) (stK k)).trans (Gnc_blk A k hk)
  exact BIClass.sep_mono (Entails.of_eq (pts_of_read c _ _ _ (((View.read_write_univ _ _).trans h).trans eM.symm)))
    (Entails.of_eq (pts_of_read c _ _ _ (h.trans eS.symm)))

theorem deliverH (k : ℕ) (hk : k < 16) {fs : Buf (Elt F) ((hblk nhS (stK k)).view.loc (c : Thread nD τ))} {fd : Buf (Elt F) ((hblk nhM (stK k)).view.loc (c : Thread nD τ))}
    (h : (hblk nhS (stK k)).view.read (Elt F) fs = fun y => nhv A (hin A (lyK k)) (lyK k) (hfK k) (ix3 (0 : Fin 1) (y 0) (y 1))) :
    iprop(hpts c nhM (stK k) ((hblk nhM (stK k)).view.write (Elt F) fd (ReadAs.same.apply ((hblk nhS (stK k)).view.read (Elt F) fs)) Finset.univ)
      ∗ hpts c nhS (stK k) fs) ⊢ doneH c A (stK k) := by
  have eM : (hblk nhM (stK k)).view.read (Elt F) (Gnh A) = _ := (hblk_read nhM (Gnh A) (stK k)).trans (Gnh_blk A k hk)
  have eS : (hblk nhS (stK k)).view.read (Elt F) (Gnh A) = _ := (hblk_read nhS (Gnh A) (stK k)).trans (Gnh_blk A k hk)
  exact BIClass.sep_mono (Entails.of_eq (pts_of_read c _ _ _ (((View.read_write_univ _ _).trans h).trans eM.symm)))
    (Entails.of_eq (pts_of_read c _ _ _ (h.trans eS.symm)))

theorem deliverO (s : Fin 2) {fs : Buf (Elt F) ((cblk outS s).view.loc (c : Thread nD τ))} {fd : Buf (Elt F) ((cblk outM s).view.loc (c : Thread nD τ))}
    (h : (cblk outS s).view.read (Elt F) fs = outv A (h1v A) 1 s) :
    iprop(cpts c outM s ((cblk outM s).view.write (Elt F) fd (ReadAs.same.apply ((cblk outS s).view.read (Elt F) fs)) Finset.univ)
      ∗ cpts c outS s fs) ⊢ doneO c A s := by
  have eM : (cblk outM s).view.read (Elt F) (Gout A) = _ := Gout_blk A s
  have eS : (cblk outS s).view.read (Elt F) (Gout A) = _ := Gout_blk A s
  exact BIClass.sep_mono (Entails.of_eq (pts_of_read c _ _ _ (((View.read_write_univ _ _).trans h).trans eM.symm)))
    (Entails.of_eq (pts_of_read c _ _ _ (h.trans eS.symm)))

section Values
variable {A} {arg0 arg1 arg2 arg3 arg8} {x0 x1 x2 x3 x8}
variable {f1 : igM.view.ty.Contents (Elt F)} {f2 : fgM.view.ty.Contents (Elt F)} {f3 : tcM.view.ty.Contents (Elt F)} {f4 : h1M.view.ty.Contents (Elt F)}

/-- The products of trip `k`, from the slot its two blocks landed in. -/
theorem mmK (R : Reads A arg0 arg1 arg2 arg3 arg8 x0 x1 x2 x3 x8) (k : Trip) (S : Scr A k.val f1 f2 f3 f4) {b : BitVec 32}
    {a : Vec F S1x128x1024 .f32} {x h : Vec F S128x1024 .f32} {u v : Vec F S1x1x512x1024 .f32}
    {hc : ∀ a, k0_off13 k a + S1x128x1024.size a ≤ S2x128x1024.size a}
    {hh : ∀ a, (![0, 0] : Fin 2 → Nat) a + S128x1024.size a ≤ S128x1024.size a}
    {h14 : ∀ a, k0_off14 k a + S1x1x512x1024.size a ≤ S4x2x512x1024.size a} {h15 : ∀ a, k0_off15 k a + S1x1x512x1024.size a ≤ S4x2x512x1024.size a}
    {j0 : (rslot (slK k.val) 0).view.ty.Contents (Elt F)} {j1 : (rslot (slK k.val) 1).view.ty.Contents (Elt F)} {p0 p1 : S512x1024.Idx → Elt F .f32}
    (ha : a = arg2.view.readAt (Elt F) (Rect.unit (s := S2x128x1024) (k0_off13 k) S1x128x1024.size hc).toLoadRect x2)
    (hx : x = arg0.view.readAt (Elt F) (Rect.unit (s := S128x1024) ![0, 0] S128x1024.size hh).toLoadRect x0)
    (hhv : h = h1M.view.readAt (Elt F) (Rect.unit (s := S128x1024) ![0, 0] S128x1024.size hh).toLoadRect f4)
    (hu : u = bufM.view.readAt (Elt F) (Rect.unit (s := S4x2x512x1024) (k0_off14 k) S1x1x512x1024.size h14).toLoadRect
      ((rslot (slK k.val) 0).view.writes (Elt F) j0 [⟨Rect.whole S512x1024, p0⟩]))
    (hv : v = bufM.view.readAt (Elt F) (Rect.unit (s := S4x2x512x1024) (k0_off15 k) S1x1x512x1024.size h15).toLoadRect
      ((rslot (slK k.val) 1).view.writes (Elt F) j1 [⟨Rect.whole S512x1024, p1⟩]))
    (hp0 : (fun x => p0 (ix2 (x 2) (x 3)) : Vec F S1x1x512x1024 .f32) = wv (A.wi (lyK k.val)) (blK k.val))
    (hp1 : (fun x => p1 (ix2 (x 2) (x 3)) : Vec F S1x1x512x1024 .f32) = wv (A.wh (lyK k.val)) (blK k.val))
    (hb : b = lw (lyK k.val)) :
    k0_pay1 b a x h u v = mm A (hin A (lyK k.val)) (lyK k.val) (blK k.val) :=
  S.mm (trip_lt k) hh hb (ha.trans (load_at arg2 x2 R.h0 (off13_eq k) _ _)) (hx.trans ((View.readAt_full arg0.view x0 hh).trans R.xt)) hhv
    (hu.trans ((slot_read (slK k.val) 0 j0 p0 (off14_eq k) h14).trans hp0)) (hv.trans ((slot_read (slK k.val) 1 j1 p1 (off15_eq k) h15).trans hp1))

/-- The biases of trip `k`. -/
theorem bvK (R : Reads A arg0 arg1 arg2 arg3 arg8 x0 x1 x2 x3 x8) (k : Trip) {hc : ∀ a, k0_off16 k a + S1x512.size a ≤ S2x4096.size a} :
    arg8.view.readAt (Elt F) (Rect.unit (s := S2x4096) (k0_off16 k) S1x512.size hc).toLoadRect x8 = bv A (lyK k.val) (blK k.val) :=
  load_at arg8 x8 R.bi (off16_eq k) _ _

/-- The mask. -/
theorem mfK (R : Reads A arg0 arg1 arg2 arg3 arg8 x0 x1 x2 x3 x8) {hc : ∀ a, (![0, 0] : Fin 2 → Nat) a + S128x1.size a ≤ S128x1.size a} :
    arg1.view.readAt (Elt F) (Rect.unit (s := S128x1) ![0, 0] S128x1.size hc).toLoadRect x1 = A.mf :=
  (View.readAt_full arg1.view x1 hc).trans R.mf

/-- The old cells and the old hidden states of trip `k`. -/
theorem c0K (R : Reads A arg0 arg1 arg2 arg3 arg8 x0 x1 x2 x3 x8) (k : Trip) {off : Fin 3 → Nat} (heq : off = hOff (stK k.val))
    {hc : ∀ a, off a + S1x128x512.size a ≤ S2x128x1024.size a} :
    arg3.view.readAt (Elt F) (Rect.unit (s := S2x128x1024) off S1x128x512.size hc).toLoadRect x3 = c0v A (stK k.val) :=
  load_at arg3 x3 R.c0 heq _ _
theorem h0K (R : Reads A arg0 arg1 arg2 arg3 arg8 x0 x1 x2 x3 x8) (k : Trip) {off : Fin 3 → Nat} (heq : off = hOff (stK k.val))
    {hc : ∀ a, off a + S1x128x512.size a ≤ S2x128x1024.size a} :
    arg2.view.readAt (Elt F) (Rect.unit (s := S2x128x1024) off S1x128x512.size hc).toLoadRect x2 = h0v A (stK k.val) :=
  load_at arg2 x2 R.h0 heq _ _

theorem pay7_congr {a a' : FVec F S128x512 .f32} {b b' : Vec F S1x512 .f32} {f f' i i' : Vec F S128x512 .f32} {z z' : Vec F S1x128x512 .f32}
    (ha : a = a') (hb : b = b') (hf : f = f') (hz : z = z') (hi : i = i') : k0_pay7 a b f z i = k0_pay7 a' b' f' z' i' := by
  subst ha hb hf hz hi; rfl
theorem pay8_congr {a a' : FVec F S128x512 .f32} {b b' : Vec F S1x512 .f32} {m m' : Vec F S128x1 .f32} {f f' i i' : Vec F S128x512 .f32} {z z' y y' : Vec F S1x128x512 .f32}
    (ha : a = a') (hb : b = b') (hm : m = m') (hf : f = f') (hz : z = z') (hi : i = i') (hy : y = y') : k0_pay8 a b m f z i y = k0_pay8 a' b' m' f' z' i' y' := by
  subst ha hb hm hf hz hi hy; rfl
theorem pay10_congr {a a' : FVec F S128x512 .f32} {b b' : Vec F S1x512 .f32} {m m' : Vec F S128x1 .f32} {f f' : Vec F S128x512 .f32} {z z' : Vec F S1x128x512 .f32}
    (ha : a = a') (hb : b = b') (hm : m = m') (hf : f = f') (hz : z = z') : k0_pay10 a b m f z = k0_pay10 a' b' m' f' z' := by
  subst ha hb hm hf hz; rfl
theorem pay11_congr {a a' : FVec F S128x512 .f32} {b b' : Vec F S1x512 .f32} {f f' : Vec F S128x512 .f32}
    (ha : a = a') (hb : b = b') (hf : f = f') : k0_pay11 a b f = k0_pay11 a' b' f' := by
  subst ha hb hf; rfl
theorem pay12_congr {a a' : FVec F S128x512 .f32} {b b' : Vec F S1x512 .f32} {m m' : Vec F S128x1 .f32} {f f' : Vec F S128x512 .f32}
    (ha : a = a') (hb : b = b') (hm : m = m') (hf : f = f') : k0_pay12 a b m f = k0_pay12 a' b' m' f' := by
  subst ha hb hm hf; rfl
end Values

end Trip

end Cert.Proof.KernelIdeal

end
-- ==== Proof.KernelIdealRing.lean ====
/-
  The resources of the loop between two trips: every chunk of the weights at home or in flight, and every block of the
  results held, or handed to its transfer.
-/
module

public import proofs.«01_k».proof.Proof.KernelIdealStage

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Ring
variable (c : Dev nD) (A : Args F)

/-- Chunk `j` before trip `i`: used and home again (its slot free if no later chunk takes it), in flight, or waiting. -/
def chunkP (i j : ℕ) : sProp 𝕄 :=
  if j < i then (if j < 12 then homeK c A j else iprop(homeK c A j ∗ freeK (F := F) c (slK j)))
  else if j < i + 4 then flyK c A j else homeK c A j
def ringP (i : ℕ) : sProp 𝕄 := bigSep (Finset.range 16) (chunkP c A i)

theorem chunk_used {i j : ℕ} (h : j < i) (h' : j < 12) : chunkP c A i j = homeK c A j := by
  unfold chunkP; exact (if_pos h).trans (if_pos h')
theorem chunk_last {i j : ℕ} (h : j < i) (h' : 12 ≤ j) : chunkP c A i j = iprop(homeK c A j ∗ freeK (F := F) c (slK j)) := by
  unfold chunkP; exact (if_pos h).trans (if_neg (Nat.not_lt.2 h'))
theorem chunk_fly {i j : ℕ} (h : i ≤ j) (h' : j < i + 4) : chunkP c A i j = flyK c A j := by
  unfold chunkP; exact (if_neg (Nat.not_lt.2 h)).trans (if_pos h')
theorem chunk_wait {i j : ℕ} (h' : i + 4 ≤ j) : chunkP c A i j = homeK c A j := by
  unfold chunkP; exact (if_neg (Nat.not_lt.2 (by omega))).trans (if_neg (Nat.not_lt.2 h'))

/-- The chunks that trip `k` does not touch. -/
abbrev restSet (k : ℕ) : Finset ℕ := ((Finset.range 16).erase k).erase (k + 4)
def restP (k : ℕ) : sProp 𝕄 := bigSep (restSet k) (chunkP c A k)

theorem rest_eq (k : ℕ) : restP c A k = bigSep (restSet k) (chunkP c A (k + 1)) := by
  refine bigSep_congr fun j hj => ?_
  simp only [Finset.mem_erase, Finset.mem_range] at hj
  rcases Nat.lt_or_ge j k with h | h
  · rcases Nat.lt_or_ge j 12 with h' | h'
    · exact (chunk_used c A h h').trans (chunk_used c A (Nat.lt_succ_of_lt h) h').symm
    · exact (chunk_last c A h h').trans (chunk_last c A (Nat.lt_succ_of_lt h) h').symm
  · rcases Nat.lt_or_ge j (k + 4) with h' | h'
    · exact (chunk_fly c A h h').trans (chunk_fly c A (i := k + 1) (by omega) (by omega)).symm
    · exact (chunk_wait c A h').trans (chunk_wait c A (i := k + 1) (by omega)).symm

theorem ring_pair (k i : ℕ) (hk : k < 12) :
    ringP c A i = iprop(chunkP c A i k ∗ chunkP c A i (k + 4) ∗ bigSep (restSet k) (chunkP c A i)) := by
  have h1 : k ∈ Finset.range 16 := Finset.mem_range.2 (by omega)
  have h2 : k + 4 ∈ (Finset.range 16).erase k := Finset.mem_erase.2 ⟨by omega, Finset.mem_range.2 (by omega)⟩
  unfold ringP restSet
  rw [bigSep_erase h1, bigSep_erase h2]; rfl

theorem ring_one (k i : ℕ) (hk : k < 16) (h12 : 12 ≤ k) :
    ringP c A i = iprop(chunkP c A i k ∗ bigSep (restSet k) (chunkP c A i)) := by
  have h1 : k ∈ Finset.range 16 := Finset.mem_range.2 hk
  have h2 : k + 4 ∉ (Finset.range 16).erase k := fun h => by
    have := Finset.mem_range.1 (Finset.mem_erase.1 h).2; omega
  unfold ringP restSet
  rw [bigSep_erase h1, Finset.erase_eq_of_notMem h2]; rfl

/-- What trip `k` takes out of the ring; -/
theorem ring_take (k : ℕ) (hk : k < 16) : ringP c A k ⊢ iprop(flyK c A k ∗ nextIn c A k ∗ restP c A k) := by
  have e1 : chunkP c A k k = flyK c A k := chunk_fly c A (Nat.le_refl k) (by omega)
  unfold restP
  rcases Nat.lt_or_ge k 12 with h | h
  · have e2 : chunkP c A k (k + 4) = nextIn c A k := (chunk_wait c A (Nat.le_refl _)).trans (if_pos h).symm
    rw [ring_pair c A k k h, e1, e2]
  · have e2 : nextIn c A k = iprop(emp) := if_neg (Nat.not_lt.2 h)
    rw [ring_one c A k k hk h, e1, e2]
    iintro ⟨H, HR⟩
    isplitl [H]; · iexact H
    isplitr; · iempintro
    iexact HR
/-- and what it puts back. -/
theorem ring_put (k : ℕ) (hk : k < 16) : iprop(homeK c A k ∗ nextOut c A k ∗ restP c A k) ⊢ ringP c A (k + 1) := by
  rw [rest_eq]
  rcases Nat.lt_or_ge k 12 with h | h
  · have e1 : chunkP c A (k + 1) k = homeK c A k := chunk_used c A (Nat.lt_succ_self k) h
    have e2 : chunkP c A (k + 1) (k + 4) = nextOut c A k :=
      (chunk_fly c A (i := k + 1) (by omega) (by omega)).trans
        ((congrArg (fun s => flyS c A s (k + 4)) (slK_add k)).trans (if_pos h).symm)
    rw [ring_pair c A k (k + 1) h, e1, e2]
  · have e1 : chunkP c A (k + 1) k = iprop(homeK c A k ∗ freeK (F := F) c (slK k)) := chunk_last c A (Nat.lt_succ_self k) h
    have e2 : nextOut c A k = freeK (F := F) c (slK k) := if_neg (Nat.not_lt.2 h)
    rw [ring_one c A k (k + 1) hk h, e1, e2]
    iintro ⟨H, HN, HR⟩
    isplitl [H HN]
    · isplitl [H]; · iexact H
      iexact HN
    iexact HR

theorem range_four : Finset.range 16 = insert 0 (insert 1 (insert 2 (insert 3 (Finset.Ico 4 16)))) := by
  ext j; simp only [Finset.mem_range, Finset.mem_insert, Finset.mem_Ico]; omega
theorem bigSep_four (Φ : ℕ → sProp 𝕄) :
    bigSep (Finset.range 16) Φ = iprop(Φ 0 ∗ Φ 1 ∗ Φ 2 ∗ Φ 3 ∗ bigSep (Finset.Ico 4 16) Φ) := by
  rw [range_four, bigSep_insert (by simp), bigSep_insert (by simp), bigSep_insert (by simp), bigSep_insert (by simp)]; rfl
theorem bigSep_last (Φ : ℕ → sProp 𝕄) : bigSep (Finset.Ico 12 16) Φ = iprop(Φ 12 ∗ Φ 13 ∗ Φ 14 ∗ Φ 15) := by
  have e : Finset.Ico 12 16 = insert 12 (insert 13 (insert 14 {15})) := by
    ext j; simp only [Finset.mem_Ico, Finset.mem_insert, Finset.mem_singleton]; omega
  rw [e, bigSep_insert (by simp), bigSep_insert (by simp), bigSep_insert (by simp), bigSep_singleton]; rfl
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- The ring before the loop, the first four chunks sent for; -/
theorem ring_start :
    iprop(flyK c A 0 ∗ flyK c A 1 ∗ flyK c A 2 ∗ flyK c A 3 ∗ bigSep (Finset.Ico 4 16) (homeK c A)) ⊢ ringP c A 0 := by
  unfold ringP
  rw [bigSep_four, bigSep_congr (s := Finset.Ico 4 16) (Ψ := homeK c A) fun j hj => chunk_wait c A (by have := Finset.mem_Ico.1 hj; omega),
    chunk_fly c A (i := 0) (j := 0) (by omega) (by omega), chunk_fly c A (i := 0) (j := 1) (by omega) (by omega),
    chunk_fly c A (i := 0) (j := 2) (by omega) (by omega), chunk_fly c A (i := 0) (j := 3) (by omega) (by omega)]
/-- and after it, every chunk at home and every slot free. -/
theorem ring_end :
    ringP c A 16 ⊢ iprop(bigSep (Finset.range 16) (homeK c A) ∗ bigSep Finset.univ (freeK (F := F) c)) := by
  have eu : Finset.range 16 = Finset.range 12 ∪ Finset.Ico 12 16 := by
    ext j; simp only [Finset.mem_range, Finset.mem_union, Finset.mem_Ico]; omega
  have hd : Disjoint (Finset.range 12) (Finset.Ico 12 16) := by
    rw [Finset.disjoint_left]; intro j h h'; have := Finset.mem_range.1 h; have := Finset.mem_Ico.1 h'; omega
  have es : bigSep (Finset.Ico 12 16) (fun j => iprop(homeK c A j ∗ freeK (F := F) c (slK j)))
      = iprop(bigSep (Finset.Ico 12 16) (homeK c A) ∗ bigSep (Finset.Ico 12 16) fun j => freeK (F := F) c (slK j)) := bigSep_sep _ _ _
  unfold ringP
  rw [eu, bigSep_union hd, bigSep_union hd,
    bigSep_congr (s := Finset.range 12) (Ψ := homeK c A) fun j hj => by
      have := Finset.mem_range.1 hj
      exact chunk_used c A (by omega) this,
    bigSep_congr (s := Finset.Ico 12 16) (Ψ := fun j => iprop(homeK c A j ∗ freeK (F := F) c (slK j))) fun j hj => by
      have := Finset.mem_Ico.1 hj
      exact chunk_last c A (by omega) (by omega),
    es, bigSep_last (fun j => freeK (F := F) c (slK j)), bigSep_fin4]
  refine show iprop(bigSep (Finset.range 12) (homeK c A) ∗ bigSep (Finset.Ico 12 16) (homeK c A)
      ∗ freeK (F := F) c (slK 12) ∗ freeK (F := F) c (slK 13) ∗ freeK (F := F) c (slK 14) ∗ freeK (F := F) c (slK 15))
    ⊢ iprop((bigSep (Finset.range 12) (homeK c A) ∗ bigSep (Finset.Ico 12 16) (homeK c A))
      ∗ freeK (F := F) c 0 ∗ freeK (F := F) c 1 ∗ freeK (F := F) c 2 ∗ freeK (F := F) c 3) from ?_
  iintro ⟨H1, H2, H3⟩
  isplitl [H1 H2]
  · isplitl [H1]; · iexact H1
    iexact H2
  iexact H3

/-! ## The results' blocks -/

/-- How many blocks of each result are sent before trip `k`. -/
def cntC (k : ℕ) : ℕ := min 2 (k - 4) + min 2 (k - 12)
def cntH (k : ℕ) : ℕ := min 2 (k - 6) + min 2 (k - 14)
def cntO (k : ℕ) : ℕ := min 2 (k - 14)

/-- The first `n` blocks sent, the others held. -/
def partC (n : ℕ) : sProp 𝕄 := iprop(sentC c A n ∗ bigSep (Transfers.pending n) (pairC (F := F) c))
def partH (n : ℕ) : sProp 𝕄 := iprop(sentH c A n ∗ bigSep (Transfers.pending n) (pairH (F := F) c))
def partO (n : ℕ) : sProp 𝕄 := iprop(sentO c A n ∗ bigSep (Transfers.pending n) (pairO (F := F) c))

theorem partC_take (j : Fin 4) : partC c A j.val ⊢ iprop(pairC (F := F) c j ∗ sentC c A j.val ∗ bigSep (Transfers.pending (j.val + 1)) (pairC (F := F) c)) := by
  unfold partC
  rw [Transfers.bigSep_pending_step _ j.val j.isLt]
  iintro ⟨H1, H2, H3⟩
  isplitl [H2]; · iexact H2
  isplitl [H1]; · iexact H1
  iexact H3
theorem partH_take (j : Fin 4) : partH c A j.val ⊢ iprop(pairH (F := F) c j ∗ sentH c A j.val ∗ bigSep (Transfers.pending (j.val + 1)) (pairH (F := F) c)) := by
  unfold partH
  rw [Transfers.bigSep_pending_step _ j.val j.isLt]
  iintro ⟨H1, H2, H3⟩
  isplitl [H2]; · iexact H2
  isplitl [H1]; · iexact H1
  iexact H3
theorem partO_take (j : Fin 2) : partO c A j.val ⊢ iprop(pairO (F := F) c j ∗ sentO c A j.val ∗ bigSep (Transfers.pending (j.val + 1)) (pairO (F := F) c)) := by
  unfold partO
  rw [Transfers.bigSep_pending_step _ j.val j.isLt]
  iintro ⟨H1, H2, H3⟩
  isplitl [H2]; · iexact H2
  isplitl [H1]; · iexact H1
  iexact H3

theorem cntC_at (k : ℕ) (hk : k < 16) (hq : k % 8 / 2 = 2) : cntC k = (stK k).val ∧ cntC (k + 1) = (stK k).val + 1 := by
  have : (stK k).val = (2 * (k / 8) + k % 2) % 4 := rfl
  unfold cntC; omega
theorem cntC_off (k : ℕ) (hk : k < 16) (hq : ¬ k % 8 / 2 = 2) : cntC (k + 1) = cntC k := by unfold cntC; omega
theorem cntH_at (k : ℕ) (hk : k < 16) (hq : k % 8 / 2 = 3) : cntH k = (stK k).val ∧ cntH (k + 1) = (stK k).val + 1 := by
  have : (stK k).val = (2 * (k / 8) + k % 2) % 4 := rfl
  unfold cntH; omega
theorem cntH_off (k : ℕ) (hk : k < 16) (hq : ¬ k % 8 / 2 = 3) : cntH (k + 1) = cntH k := by unfold cntH; omega
theorem cntO_at (k : ℕ) (hk : k < 16) (hq : k % 8 / 2 = 3) (hl : k / 8 = 1) : cntO k = (hfK k).val ∧ cntO (k + 1) = (hfK k).val + 1 := by
  have : (hfK k).val = k % 2 := rfl
  unfold cntO; omega
theorem cntO_off (k : ℕ) (hk : k < 16) (hq : ¬ (k % 8 / 2 = 3 ∧ k / 8 = 1)) : cntO (k + 1) = cntO k := by unfold cntO; omega

end Ring

end Cert.Proof.KernelIdeal

end
-- ==== Proof.KernelIdealTrip0.lean ====
/-
  A trip whose block belongs to the input gate.
-/
module

public import proofs.«01_k».proof.Proof.KernelIdealStage

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip
variable (c : Dev nD) (A : Args F)
  (arg0 : Memref sig .tc .vmem S128x1024 .f32) (harg0 : arg0.IsWhole) (arg1 : Memref sig .tc .vmem S128x1 .f32) (harg1 : arg1.IsWhole)
  (arg2 : Memref sig .tc .vmem S2x128x1024 .f32) (harg2 : arg2.IsWhole) (arg3 : Memref sig .tc .vmem S2x128x1024 .f32) (harg3 : arg3.IsWhole)
  (arg8 : Memref sig .tc .vmem S2x4096 .f32) (harg8 : arg8.IsWhole)

variable (x0 : arg0.view.ty.Contents (Elt F)) (x1 : arg1.view.ty.Contents (Elt F)) (x2 : arg2.view.ty.Contents (Elt F))
    (x3 : arg3.view.ty.Contents (Elt F)) (x8 : arg8.view.ty.Contents (Elt F))

set_option maxHeartbeats 4000000 in
/-- A trip of the input gate: its half is stored, the next trip of the slot is sent for. -/
theorem trip0 (R : Reads A arg0 arg1 arg2 arg3 arg8 x0 x1 x2 x3 x8) (k : Trip) (hq : k.val % 8 / 2 = 0) :
   iprop(stagedP c arg0 arg1 arg2 arg3 arg8 x0 x1 x2 x3 x8 ∗ scratchP c A k.val ∗ flyK c A k.val ∗ nextIn c A k.val ∗ owesP (F := F) c)
   ⊢ wp frame (wpE (defs₀ (F := F)) 𝒱₀ (c : Thread nD τ) none) Set.univ (tripG arg0 harg0 arg1 harg1 arg2 harg2 arg3 harg3 arg8 harg8 k)
      (fun _ => iprop(stagedP c arg0 arg1 arg2 arg3 arg8 x0 x1 x2 x3 x8 ∗ scratchP c A (k.val + 1) ∗ homeK c A k.val ∗ nextOut c A k.val
        ∗ owesP (F := F) c)) := by
  have hk := trip_lt k
  have h9 : k0_cond9 k = 1#1 := (cond9_iff k).2 hq
  have h10 : ¬ k0_cond10 k = 1#1 := fun h => by have := (cond10_iff k).1 h; omega
  have h11 : ¬ k0_cond11 k = 1#1 := fun h => by have := (cond11_iff k).1 h; omega
  have h12 : ¬ k0_cond12 k = 1#1 := fun h => by have := (cond12_iff k).1 h; omega
  rcases caseK k with ⟨h, h15, h16, h17, el, e8, e48, e12⟩ | ⟨h, h15, h16, h17, el, e8, e48, e12⟩ | ⟨h, h15, h16, h17, el, e8, e48, e12⟩ | ⟨h, h15, h16, h17, el, e8, e48, e12⟩
  all_goals first | (exfalso; omega) | skip
  all_goals
    simp only [flyK, flyS, nextIn, nextOut, homeK, owesP, freeK, e8, e48, e12, if_true, if_false]
    iintro ⟨⟨Hx0, Hx1, Hx2, Hx3, Hx8⟩, ⟨%f1, %f2, %f3, %f4, %S, Hig, Hfg, Htc, Hh1⟩, ⟨%g0, %g1, HF0, HF1⟩, HN, ⟨%W, HW⟩⟩
    first | icases HN with ⟨HN0, HN1⟩ | skip
    dsimp only [tripG]
    sl_unfold [k0_t1_body]
    sl_exec
    rw [wp_ret]; imodintro
    isplitl [Hx0 Hx1 Hx2 Hx3 Hx8]
    · isplitl [Hx0]; · iexact Hx0
      isplitl [Hx1]; · iexact Hx1
      isplitl [Hx2]; · iexact Hx2
      isplitl [Hx3]; · iexact Hx3
      iexact Hx8
    isplitl [Hig Hfg Htc Hh1]
    · iexists _, f2, f3, f4
      isplitr; rotate_left
      · isplitl [Hig]; · iexact Hig
        isplitl [Hfg]; · iexact Hfg
        isplitl [Htc]; · iexact Htc
        iexact Hh1
      · ipureintro
        refine S.step0 hq (off17_eq k) _ ?_
        unfold igv
        rw [gB_eq hq]
        exact congrArg₂ k0_pay4 (mmK R k S rfl rfl rfl rfl rfl (by rw [el]; first | exact (payload_wv c _ _).1 | exact (payload_wv c _ _).2.2.1)
          (by rw [el]; first | exact (payload_wv c _ _).2.1 | exact (payload_wv c _ _).2.2.2) (by clear * - k; revert k; decide +kernel)) (bvK R k)
    isplitl [HF0_src HF1_src]
    · isplitl [HF0_src]; · iexact HF0_src
      iexact HF1_src
    isplitl [HF0 HF1]
    · iexists _, _
      isplitl [HF0]; · iexact HF0
      iexact HF1
    iexists _
    iexact HW

end Trip

end Cert.Proof.KernelIdeal

end
-- ==== Proof.KernelIdealTrip1.lean ====
/-
  A trip whose block belongs to the forget gate.
-/
module

public import proofs.«01_k».proof.Proof.KernelIdealStage

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip
variable (c : Dev nD) (A : Args F)
  (arg0 : Memref sig .tc .vmem S128x1024 .f32) (harg0 : arg0.IsWhole) (arg1 : Memref sig .tc .vmem S128x1 .f32) (harg1 : arg1.IsWhole)
  (arg2 : Memref sig .tc .vmem S2x128x1024 .f32) (harg2 : arg2.IsWhole) (arg3 : Memref sig .tc .vmem S2x128x1024 .f32) (harg3 : arg3.IsWhole)
  (arg8 : Memref sig .tc .vmem S2x4096 .f32) (harg8 : arg8.IsWhole)

variable (x0 : arg0.view.ty.Contents (Elt F)) (x1 : arg1.view.ty.Contents (Elt F)) (x2 : arg2.view.ty.Contents (Elt F))
    (x3 : arg3.view.ty.Contents (Elt F)) (x8 : arg8.view.ty.Contents (Elt F))

set_option maxHeartbeats 4000000 in
/-- A trip of the forget gate. -/
theorem trip1 (R : Reads A arg0 arg1 arg2 arg3 arg8 x0 x1 x2 x3 x8) (k : Trip) (hq : k.val % 8 / 2 = 1) :
   iprop(stagedP c arg0 arg1 arg2 arg3 arg8 x0 x1 x2 x3 x8 ∗ scratchP c A k.val ∗ flyK c A k.val ∗ nextIn c A k.val ∗ owesP (F := F) c)
   ⊢ wp frame (wpE (defs₀ (F := F)) 𝒱₀ (c : Thread nD τ) none) Set.univ (tripG arg0 harg0 arg1 harg1 arg2 harg2 arg3 harg3 arg8 harg8 k)
      (fun _ => iprop(stagedP c arg0 arg1 arg2 arg3 arg8 x0 x1 x2 x3 x8 ∗ scratchP c A (k.val + 1) ∗ homeK c A k.val ∗ nextOut c A k.val
        ∗ owesP (F := F) c)) := by
  have hk := trip_lt k
  have h9 : ¬ k0_cond9 k = 1#1 := fun h => by have := (cond9_iff k).1 h; omega
  have h10 : k0_cond10 k = 1#1 := (cond10_iff k).2 hq
  have h11 : ¬ k0_cond11 k = 1#1 := fun h => by have := (cond11_iff k).1 h; omega
  have h12 : ¬ k0_cond12 k = 1#1 := fun h => by have := (cond12_iff k).1 h; omega
  rcases caseK k with ⟨h, h15, h16, h17, el, e8, e48, e12⟩ | ⟨h, h15, h16, h17, el, e8, e48, e12⟩ | ⟨h, h15, h16, h17, el, e8, e48, e12⟩ | ⟨h, h15, h16, h17, el, e8, e48, e12⟩
  all_goals first | (exfalso; omega) | skip
  all_goals
    simp only [flyK, flyS, nextIn, nextOut, homeK, owesP, freeK, e8, e48, e12, if_true, if_false]
    iintro ⟨⟨Hx0, Hx1, Hx2, Hx3, Hx8⟩, ⟨%f1, %f2, %f3, %f4, %S, Hig, Hfg, Htc, Hh1⟩, ⟨%g0, %g1, HF0, HF1⟩, HN, ⟨%W, HW⟩⟩
    first | icases HN with ⟨HN0, HN1⟩ | skip
    dsimp only [tripG]
    sl_unfold [k0_t1_body]
    sl_exec
    rw [wp_ret]; imodintro
    isplitl [Hx0 Hx1 Hx2 Hx3 Hx8]
    · isplitl [Hx0]; · iexact Hx0
      isplitl [Hx1]; · iexact Hx1
      isplitl [Hx2]; · iexact Hx2
      isplitl [Hx3]; · iexact Hx3
      iexact Hx8
    isplitl [Hig Hfg Htc Hh1]
    · iexists f1, _, f3, f4
      isplitr; rotate_left
      · isplitl [Hig]; · iexact Hig
        isplitl [Hfg]; · iexact Hfg
        isplitl [Htc]; · iexact Htc
        iexact Hh1
      · ipureintro
        refine S.step1 hq (off18_eq k) _ ?_
        unfold fgv
        rw [gB_eq hq]
        exact congrArg₂ k0_pay5 (mmK R k S rfl rfl rfl rfl rfl (by rw [el]; first | exact (payload_wv c _ _).1 | exact (payload_wv c _ _).2.2.1)
          (by rw [el]; first | exact (payload_wv c _ _).2.1 | exact (payload_wv c _ _).2.2.2) (by clear * - k; revert k; decide +kernel)) (bvK R k)
    isplitl [HF0_src HF1_src]
    · isplitl [HF0_src]; · iexact HF0_src
      iexact HF1_src
    isplitl [HF0 HF1]
    · iexists _, _
      isplitl [HF0]; · iexact HF0
      iexact HF1
    iexists _
    iexact HW

end Trip

end Cert.Proof.KernelIdeal

end
-- ==== Proof.KernelIdealTrip2.lean ====
/-
  A trip whose block belongs to the cell: the new cell is stored, and its block sent out.
-/
module

public import proofs.«01_k».proof.Proof.KernelIdealStage

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip
variable (c : Dev nD) (A : Args F)
  (arg0 : Memref sig .tc .vmem S128x1024 .f32) (harg0 : arg0.IsWhole) (arg1 : Memref sig .tc .vmem S128x1 .f32) (harg1 : arg1.IsWhole)
  (arg2 : Memref sig .tc .vmem S2x128x1024 .f32) (harg2 : arg2.IsWhole) (arg3 : Memref sig .tc .vmem S2x128x1024 .f32) (harg3 : arg3.IsWhole)
  (arg8 : Memref sig .tc .vmem S2x4096 .f32) (harg8 : arg8.IsWhole)

variable (x0 : arg0.view.ty.Contents (Elt F)) (x1 : arg1.view.ty.Contents (Elt F)) (x2 : arg2.view.ty.Contents (Elt F))
    (x3 : arg3.view.ty.Contents (Elt F)) (x8 : arg8.view.ty.Contents (Elt F))

set_option maxHeartbeats 4000000 in
/-- A trip of the cell. -/
theorem trip2 (R : Reads A arg0 arg1 arg2 arg3 arg8 x0 x1 x2 x3 x8) (k : Trip) (hq : k.val % 8 / 2 = 2) :
   iprop(stagedP c arg0 arg1 arg2 arg3 arg8 x0 x1 x2 x3 x8 ∗ scratchP c A k.val ∗ flyK c A k.val ∗ nextIn c A k.val ∗ pairC (F := F) c (stK k.val) ∗ sentC c A (stK k.val).val ∗ owesP (F := F) c)
   ⊢ wp frame (wpE (defs₀ (F := F)) 𝒱₀ (c : Thread nD τ) none) Set.univ (tripG arg0 harg0 arg1 harg1 arg2 harg2 arg3 harg3 arg8 harg8 k)
      (fun _ => iprop(stagedP c arg0 arg1 arg2 arg3 arg8 x0 x1 x2 x3 x8 ∗ scratchP c A (k.val + 1) ∗ homeK c A k.val ∗ nextOut c A k.val
        ∗ sentC c A ((stK k.val).val + 1) ∗ owesP (F := F) c)) := by
  have hk := trip_lt k
  have h9 : ¬ k0_cond9 k = 1#1 := fun h => by have := (cond9_iff k).1 h; omega
  have h10 : ¬ k0_cond10 k = 1#1 := fun h => by have := (cond10_iff k).1 h; omega
  have h11 : k0_cond11 k = 1#1 := (cond11_iff k).2 hq
  have h12 : ¬ k0_cond12 k = 1#1 := fun h => by have := (cond12_iff k).1 h; omega
  rcases caseK k with ⟨h, h15, h16, h17, el, e8, e48, e12⟩ | ⟨h, h15, h16, h17, el, e8, e48, e12⟩ | ⟨h, h15, h16, h17, el, e8, e48, e12⟩ | ⟨h, h15, h16, h17, el, e8, e48, e12⟩
  all_goals first | (exfalso; omega) | skip
  all_goals
    simp only [flyK, flyS, nextIn, nextOut, homeK, owesP, freeK, pairC, e8, e48, e12, if_true, if_false]
    iintro ⟨⟨Hx0, Hx1, Hx2, Hx3, Hx8⟩, ⟨%f1, %f2, %f3, %f4, %S, Hig, Hfg, Htc, Hh1⟩, ⟨%g0, %g1, HF0, HF1⟩, HN, ⟨%fd, %fs, HD, HC⟩, HB, ⟨%W, HW⟩⟩
    first | icases HN with ⟨HN0, HN1⟩ | skip
    dsimp only [tripG]
    sl_unfold [k0_t1_body]
    sl_exec
    iapply (Transfers.wp_dmaBatch (countersEmb (U := Pipeline.UD sig nD τ)) 𝒱₀ (c : Thread nD τ) none (src := hblk ncS (stK k.val)) (dst := hblk ncM (stK k.val)) () 8192 rfl subset_rfl
      (stK k.val).isLt (Nat.zero_le _) (deliverC c A k.val hk ?_)) $$ [HC HD HB]
    rotate_left
    · isplitl [HC]; · iexact HC
      isplitl [HD]; · iexact HD
      iexact HB
    iintro HB
    sl_exec
    rw [wp_ret]; imodintro
    isplitl [Hx0 Hx1 Hx2 Hx3 Hx8]
    · isplitl [Hx0]; · iexact Hx0
      isplitl [Hx1]; · iexact Hx1
      isplitl [Hx2]; · iexact Hx2
      isplitl [Hx3]; · iexact Hx3
      iexact Hx8
    isplitl [Hig Hfg Htc Hh1]
    · iexists f1, f2, _, f4
      isplitr; rotate_left
      · isplitl [Hig]; · iexact Hig
        isplitl [Hfg]; · iexact Hfg
        isplitl [Htc]; · iexact Htc
        iexact Hh1
      · ipureintro
        refine S.step2 hq (off19_eq k) _ ?_
        unfold tcv
        rw [gB_eq hq, sB_eq hk]
        exact pay7_congr (mmK R k S rfl rfl rfl rfl rfl (by rw [el]; first | exact (payload_wv c _ _).1 | exact (payload_wv c _ _).2.2.1)
          (by rw [el]; first | exact (payload_wv c _ _).2.1 | exact (payload_wv c _ _).2.2.2) (by clear * - k; revert k; decide +kernel)) (bvK R k) (S.fg.read (hfK k.val) (by show 2 + k.val % 2 < k.val % 8; omega) (off19_eq k) _) (c0K R k (off20_eq k))
          (S.ig.read (hfK k.val) (by show 0 + k.val % 2 < k.val % 8; omega) (off19_eq k) _)
    isplitl [HF0_src HF1_src]
    · isplitl [HF0_src]; · iexact HF0_src
      iexact HF1_src
    first
    | (isplitl [HF0 HF1 HF0_dst HF1_dst]
       · iexists _, _
         isplitl [HF0_dst]; · iexact HF0_dst
         isplitl [HF1_dst]; · iexact HF1_dst
         isplitl [HF0]; · iexact HF0
         iexact HF1)
    | (isplitl [HF0 HF1]
       · iexists _, _
         isplitl [HF0]; · iexact HF0
         iexact HF1)
    isplitl [HB]; · iexact HB
    iexists _
    iexact HW
    refine (hblk_store ncS _ (stK k.val) (off20_eq k) (k0_off20_inb k h11) (k0_pay8 _ _ _ _ _ _ _)).trans ?_
    unfold ncv
    rw [gB_eq hq, sB_eq hk]
    exact funext fun y => congrFun (pay8_congr (mmK R k S rfl rfl rfl rfl rfl (by rw [el]; first | exact (payload_wv c _ _).1 | exact (payload_wv c _ _).2.2.1)
          (by rw [el]; first | exact (payload_wv c _ _).2.1 | exact (payload_wv c _ _).2.2.2) (by clear * - k; revert k; decide +kernel)) (bvK R k) (mfK R)
        (S.fg.read (hfK k.val) (by show 2 + k.val % 2 < k.val % 8; omega) (off19_eq k) _) (c0K R k (off20_eq k))
        (S.ig.read (hfK k.val) (by show 0 + k.val % 2 < k.val % 8; omega) (off19_eq k) _) (c0K R k (off20_eq k))) _

end Trip

end Cert.Proof.KernelIdeal

end
-- ==== Proof.KernelIdealTrip3.lean ====
/-
  A trip whose block belongs to the output gate, of the first layer: the new hidden state is stored and sent out; unmasked it is kept for the second layer.
-/
module

public import proofs.«01_k».proof.Proof.KernelIdealStage

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip
variable (c : Dev nD) (A : Args F)
  (arg0 : Memref sig .tc .vmem S128x1024 .f32) (harg0 : arg0.IsWhole) (arg1 : Memref sig .tc .vmem S128x1 .f32) (harg1 : arg1.IsWhole)
  (arg2 : Memref sig .tc .vmem S2x128x1024 .f32) (harg2 : arg2.IsWhole) (arg3 : Memref sig .tc .vmem S2x128x1024 .f32) (harg3 : arg3.IsWhole)
  (arg8 : Memref sig .tc .vmem S2x4096 .f32) (harg8 : arg8.IsWhole)

variable (x0 : arg0.view.ty.Contents (Elt F)) (x1 : arg1.view.ty.Contents (Elt F)) (x2 : arg2.view.ty.Contents (Elt F))
    (x3 : arg3.view.ty.Contents (Elt F)) (x8 : arg8.view.ty.Contents (Elt F))

set_option maxHeartbeats 4000000 in
/-- A trip of the output gate, first layer. -/
theorem trip3 (R : Reads A arg0 arg1 arg2 arg3 arg8 x0 x1 x2 x3 x8) (k : Trip) (hq : k.val % 8 / 2 = 3) (hl : k.val / 8 = 0) :
   iprop(stagedP c arg0 arg1 arg2 arg3 arg8 x0 x1 x2 x3 x8 ∗ scratchP c A k.val ∗ flyK c A k.val ∗ nextIn c A k.val ∗ pairH (F := F) c (stK k.val) ∗ sentH c A (stK k.val).val ∗ owesP (F := F) c)
   ⊢ wp frame (wpE (defs₀ (F := F)) 𝒱₀ (c : Thread nD τ) none) Set.univ (tripG arg0 harg0 arg1 harg1 arg2 harg2 arg3 harg3 arg8 harg8 k)
      (fun _ => iprop(stagedP c arg0 arg1 arg2 arg3 arg8 x0 x1 x2 x3 x8 ∗ scratchP c A (k.val + 1) ∗ homeK c A k.val ∗ nextOut c A k.val
        ∗ sentH c A ((stK k.val).val + 1) ∗ owesP (F := F) c)) := by
  have hk := trip_lt k
  have h9 : ¬ k0_cond9 k = 1#1 := fun h => by have := (cond9_iff k).1 h; omega
  have h10 : ¬ k0_cond10 k = 1#1 := fun h => by have := (cond10_iff k).1 h; omega
  have h11 : ¬ k0_cond11 k = 1#1 := fun h => by have := (cond11_iff k).1 h; omega
  have h12 : k0_cond12 k = 1#1 := (cond12_iff k).2 hq
  have h13 : k0_cond13 k = 1#1 := (cond13_iff k).2 (by omega)
  have h14 : ¬ k0_cond14 k = 1#1 := fun h => by have := (cond14_iff k).1 h; omega
  rcases caseK k with ⟨h, h15, h16, h17, el, e8, e48, e12⟩ | ⟨h, h15, h16, h17, el, e8, e48, e12⟩ | ⟨h, h15, h16, h17, el, e8, e48, e12⟩ | ⟨h, h15, h16, h17, el, e8, e48, e12⟩
  all_goals first | (exfalso; omega) | skip
  all_goals
    simp only [flyK, flyS, nextIn, nextOut, homeK, owesP, freeK, pairH, e8, e48, e12, if_true, if_false]
    iintro ⟨⟨Hx0, Hx1, Hx2, Hx3, Hx8⟩, ⟨%f1, %f2, %f3, %f4, %S, Hig, Hfg, Htc, Hh1⟩, ⟨%g0, %g1, HF0, HF1⟩, HN, ⟨%fd, %fs, HD, HC⟩, HB, ⟨%W, HW⟩⟩
    first | icases HN with ⟨HN0, HN1⟩ | skip
    dsimp only [tripG]
    sl_unfold [k0_t1_body]
    sl_exec
    iapply (Transfers.wp_dmaBatch (countersEmb (U := Pipeline.UD sig nD τ)) 𝒱₀ (c : Thread nD τ) none (src := hblk nhS (stK k.val)) (dst := hblk nhM (stK k.val)) () 8192 rfl subset_rfl
      (stK k.val).isLt (Nat.zero_le _) (deliverH c A k.val hk ?_)) $$ [HC HD HB]
    rotate_left
    · isplitl [HC]; · iexact HC
      isplitl [HD]; · iexact HD
      iexact HB
    iintro HB
    sl_exec
    rw [wp_ret]; imodintro
    isplitl [Hx0 Hx1 Hx2 Hx3 Hx8]
    · isplitl [Hx0]; · iexact Hx0
      isplitl [Hx1]; · iexact Hx1
      isplitl [Hx2]; · iexact Hx2
      isplitl [Hx3]; · iexact Hx3
      iexact Hx8
    isplitl [Hig Hfg Htc Hh1]
    · iexists f1, f2, f3, _
      isplitr; rotate_left
      · isplitl [Hig]; · iexact Hig
        isplitl [Hfg]; · iexact Hfg
        isplitl [Htc]; · iexact Htc
        iexact Hh1
      · ipureintro
        refine S.step3 hq hl (off25_eq k) _ ?_
        refine Eq.trans ?_ (show hnv A (hin A (lyK k.val)) (lyK k.val) (hfK k.val) = hnv A A.xt 0 (hfK k.val) from by rw [el]; rfl)
        unfold hnv
        rw [gB_eq hq]
        exact pay11_congr (mmK R k S rfl rfl rfl rfl rfl (by rw [el]; first | exact (payload_wv c _ _).1 | exact (payload_wv c _ _).2.2.1)
          (by rw [el]; first | exact (payload_wv c _ _).2.1 | exact (payload_wv c _ _).2.2.2) (by clear * - k; revert k; decide +kernel)) (bvK R k) (S.tc.read (hfK k.val) (by show 4 + k.val % 2 < k.val % 8; omega) (off22_eq k) _)
    isplitl [HF0_src HF1_src]
    · isplitl [HF0_src]; · iexact HF0_src
      iexact HF1_src
    first
    | (isplitl [HF0 HF1 HF0_dst HF1_dst]
       · iexists _, _
         isplitl [HF0_dst]; · iexact HF0_dst
         isplitl [HF1_dst]; · iexact HF1_dst
         isplitl [HF0]; · iexact HF0
         iexact HF1)
    | (isplitl [HF0 HF1]
       · iexists _, _
         isplitl [HF0]; · iexact HF0
         iexact HF1)
    isplitl [HB]; · iexact HB
    iexists _
    iexact HW
    refine (hblk_store nhS _ (stK k.val) (off23_eq k) (k0_off23_inb k h12) (k0_pay10 _ _ _ _ _)).trans ?_
    unfold nhv
    rw [gB_eq hq, sB_eq hk]
    exact funext fun y => congrFun (pay10_congr (mmK R k S rfl rfl rfl rfl rfl (by rw [el]; first | exact (payload_wv c _ _).1 | exact (payload_wv c _ _).2.2.1)
          (by rw [el]; first | exact (payload_wv c _ _).2.1 | exact (payload_wv c _ _).2.2.2) (by clear * - k; revert k; decide +kernel)) (bvK R k) (mfK R)
        (S.tc.read (hfK k.val) (by show 4 + k.val % 2 < k.val % 8; omega) (off22_eq k) _) (h0K R k (off23_eq k))) _

end Trip

end Cert.Proof.KernelIdeal

end
-- ==== Proof.KernelIdealTrip4.lean ====
/-
  A trip whose block belongs to the output gate, of the second layer: the new hidden state is stored and sent out, and the masked output with it.
-/
module

public import proofs.«01_k».proof.Proof.KernelIdealStage

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip
variable (c : Dev nD) (A : Args F)
  (arg0 : Memref sig .tc .vmem S128x1024 .f32) (harg0 : arg0.IsWhole) (arg1 : Memref sig .tc .vmem S128x1 .f32) (harg1 : arg1.IsWhole)
  (arg2 : Memref sig .tc .vmem S2x128x1024 .f32) (harg2 : arg2.IsWhole) (arg3 : Memref sig .tc .vmem S2x128x1024 .f32) (harg3 : arg3.IsWhole)
  (arg8 : Memref sig .tc .vmem S2x4096 .f32) (harg8 : arg8.IsWhole)

variable (x0 : arg0.view.ty.Contents (Elt F)) (x1 : arg1.view.ty.Contents (Elt F)) (x2 : arg2.view.ty.Contents (Elt F))
    (x3 : arg3.view.ty.Contents (Elt F)) (x8 : arg8.view.ty.Contents (Elt F))

set_option maxHeartbeats 4000000 in
/-- A trip of the output gate, second layer. -/
theorem trip4 (R : Reads A arg0 arg1 arg2 arg3 arg8 x0 x1 x2 x3 x8) (k : Trip) (hq : k.val % 8 / 2 = 3) (hl : k.val / 8 = 1) :
   iprop(stagedP c arg0 arg1 arg2 arg3 arg8 x0 x1 x2 x3 x8 ∗ scratchP c A k.val ∗ flyK c A k.val ∗ nextIn c A k.val ∗ pairH (F := F) c (stK k.val) ∗ sentH c A (stK k.val).val ∗ pairO (F := F) c (hfK k.val) ∗ sentO c A (hfK k.val).val ∗ owesP (F := F) c)
   ⊢ wp frame (wpE (defs₀ (F := F)) 𝒱₀ (c : Thread nD τ) none) Set.univ (tripG arg0 harg0 arg1 harg1 arg2 harg2 arg3 harg3 arg8 harg8 k)
      (fun _ => iprop(stagedP c arg0 arg1 arg2 arg3 arg8 x0 x1 x2 x3 x8 ∗ scratchP c A (k.val + 1) ∗ homeK c A k.val ∗ nextOut c A k.val
        ∗ sentH c A ((stK k.val).val + 1) ∗ sentO c A ((hfK k.val).val + 1) ∗ owesP (F := F) c)) := by
  have hk := trip_lt k
  have h9 : ¬ k0_cond9 k = 1#1 := fun h => by have := (cond9_iff k).1 h; omega
  have h10 : ¬ k0_cond10 k = 1#1 := fun h => by have := (cond10_iff k).1 h; omega
  have h11 : ¬ k0_cond11 k = 1#1 := fun h => by have := (cond11_iff k).1 h; omega
  have h12 : k0_cond12 k = 1#1 := (cond12_iff k).2 hq
  have h14 : k0_cond14 k = 1#1 := (cond14_iff k).2 (by omega)
  have h13 : ¬ k0_cond13 k = 1#1 := fun h => by have := (cond13_iff k).1 h; omega
  rcases caseK k with ⟨h, h15, h16, h17, el, e8, e48, e12⟩ | ⟨h, h15, h16, h17, el, e8, e48, e12⟩ | ⟨h, h15, h16, h17, el, e8, e48, e12⟩ | ⟨h, h15, h16, h17, el, e8, e48, e12⟩
  all_goals first | (exfalso; omega) | skip
  all_goals
    simp only [flyK, flyS, nextIn, nextOut, homeK, owesP, freeK, pairH, pairO, e8, e48, e12, if_true, if_false]
    iintro ⟨⟨Hx0, Hx1, Hx2, Hx3, Hx8⟩, ⟨%f1, %f2, %f3, %f4, %S, Hig, Hfg, Htc, Hh1⟩, ⟨%g0, %g1, HF0, HF1⟩, HN, ⟨%fd, %fs, HD, HC⟩, HB, ⟨%ud, %us, HE, HG⟩, HO, ⟨%W, HW⟩⟩
    first | icases HN with ⟨HN0, HN1⟩ | skip
    dsimp only [tripG]
    sl_unfold [k0_t1_body]
    sl_exec
    iapply (Transfers.wp_dmaBatch (countersEmb (U := Pipeline.UD sig nD τ)) 𝒱₀ (c : Thread nD τ) none (src := hblk nhS (stK k.val)) (dst := hblk nhM (stK k.val)) () 8192 rfl subset_rfl
      (stK k.val).isLt (Nat.zero_le _) (deliverH c A k.val hk ?_)) $$ [HC HD HB]
    rotate_left
    · isplitl [HC]; · iexact HC
      isplitl [HD]; · iexact HD
      iexact HB
    iintro HB
    sl_exec
    iapply (Transfers.wp_dmaBatch (countersEmb (U := Pipeline.UD sig nD τ)) 𝒱₀ (c : Thread nD τ) none (src := cblk outS (hfK k.val)) (dst := cblk outM (hfK k.val)) () 8192 rfl subset_rfl
      (hfK k.val).isLt (Nat.zero_le _) (deliverO c A (hfK k.val) ?_)) $$ [HG HE HO]
    rotate_left
    · isplitl [HG]; · iexact HG
      isplitl [HE]; · iexact HE
      iexact HO
    iintro HO
    sl_exec
    rw [wp_ret]; imodintro
    isplitl [Hx0 Hx1 Hx2 Hx3 Hx8]
    · isplitl [Hx0]; · iexact Hx0
      isplitl [Hx1]; · iexact Hx1
      isplitl [Hx2]; · iexact Hx2
      isplitl [Hx3]; · iexact Hx3
      iexact Hx8
    isplitl [Hig Hfg Htc Hh1]
    · iexists f1, f2, f3, f4
      isplitr; rotate_left
      · isplitl [Hig]; · iexact Hig
        isplitl [Hfg]; · iexact Hfg
        isplitl [Htc]; · iexact Htc
        iexact Hh1
      · ipureintro
        exact S.step3' hq hl
    isplitl [HF0_src HF1_src]
    · isplitl [HF0_src]; · iexact HF0_src
      iexact HF1_src
    first
    | (isplitl [HF0 HF1 HF0_dst HF1_dst]
       · iexists _, _
         isplitl [HF0_dst]; · iexact HF0_dst
         isplitl [HF1_dst]; · iexact HF1_dst
         isplitl [HF0]; · iexact HF0
         iexact HF1)
    | (isplitl [HF0 HF1]
       · iexists _, _
         isplitl [HF0]; · iexact HF0
         iexact HF1)
    isplitl [HB]; · iexact HB
    isplitl [HO]; · iexact HO
    iexists _
    iexact HW
    · refine (hblk_store nhS _ (stK k.val) (off23_eq k) (k0_off23_inb k h12) (k0_pay10 _ _ _ _ _)).trans ?_
      unfold nhv
      rw [gB_eq hq, sB_eq hk]
      exact funext fun y => congrFun (pay10_congr (mmK R k S rfl rfl rfl rfl rfl (by rw [el]; first | exact (payload_wv c _ _).1 | exact (payload_wv c _ _).2.2.1)
            (by rw [el]; first | exact (payload_wv c _ _).2.1 | exact (payload_wv c _ _).2.2.2) (by clear * - k; revert k; decide +kernel)) (bvK R k) (mfK R)
          (S.tc.read (hfK k.val) (by show 4 + k.val % 2 < k.val % 8; omega) (off22_eq k) _) (h0K R k (off23_eq k))) _
    · refine (cblk_store outS _ (hfK k.val) (off26_eq k) (k0_off26_inb k h12 h14) (k0_pay12 _ _ _ _)).trans ?_
      refine Eq.trans ?_ (show outv A (hin A (lyK k.val)) (lyK k.val) (hfK k.val) = outv A (h1v A) 1 (hfK k.val) from by rw [el]; rfl)
      unfold outv
      rw [gB_eq hq]
      exact pay12_congr (mmK R k S rfl rfl rfl rfl rfl (by rw [el]; first | exact (payload_wv c _ _).1 | exact (payload_wv c _ _).2.2.1)
          (by rw [el]; first | exact (payload_wv c _ _).2.1 | exact (payload_wv c _ _).2.2.2) (by clear * - k; revert k; decide +kernel)) (bvK R k) (mfK R) (S.tc.read (hfK k.val) (by show 4 + k.val % 2 < k.val % 8; omega) (off22_eq k) _)

end Trip

end Cert.Proof.KernelIdeal

end
-- ==== Proof.KernelIdealLoop.lean ====
/-
  The loop: one trip takes the resources before it to the resources before the next, whichever gate its block belongs to.
-/
module

public import proofs.«01_k».proof.Proof.KernelIdealRing
public import proofs.«01_k».proof.Proof.KernelIdealTrip0
public import proofs.«01_k».proof.Proof.KernelIdealTrip1
public import proofs.«01_k».proof.Proof.KernelIdealTrip2
public import proofs.«01_k».proof.Proof.KernelIdealTrip3
public import proofs.«01_k».proof.Proof.KernelIdealTrip4

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Loop
variable (c : Dev nD) (A : Args F)
  (arg0 : Memref sig .tc .vmem S128x1024 .f32) (harg0 : arg0.IsWhole) (arg1 : Memref sig .tc .vmem S128x1 .f32) (harg1 : arg1.IsWhole)
  (arg2 : Memref sig .tc .vmem S2x128x1024 .f32) (harg2 : arg2.IsWhole) (arg3 : Memref sig .tc .vmem S2x128x1024 .f32) (harg3 : arg3.IsWhole)
  (arg8 : Memref sig .tc .vmem S2x4096 .f32) (harg8 : arg8.IsWhole)

variable (x0 : arg0.view.ty.Contents (Elt F)) (x1 : arg1.view.ty.Contents (Elt F)) (x2 : arg2.view.ty.Contents (Elt F))
    (x3 : arg3.view.ty.Contents (Elt F)) (x8 : arg8.view.ty.Contents (Elt F))

/-- What the loop holds of the results before trip `k`, and before it altogether. -/
def outsP (k : ℕ) : sProp 𝕄 :=
  iprop(partC c A (cntC k) ∗ partH c A (cntH k) ∗ partO c A (cntO k) ∗ owesP (F := F) c)
def invP (k : ℕ) : sProp 𝕄 :=
  iprop(⌜Reads A arg0 arg1 arg2 arg3 arg8 x0 x1 x2 x3 x8⌝ ∗ stagedP c arg0 arg1 arg2 arg3 arg8 x0 x1 x2 x3 x8 ∗ scratchP c A k ∗ ringP c A k ∗ outsP c A k)

/-- A trip's own resources, `P` of the results going in and `Q` coming out, extend to the loop's. -/
theorem step_of (k : Trip) (P Q T : sProp 𝕄) (hin : outsP c A k.val ⊢ iprop(P ∗ T)) (hout : iprop(Q ∗ T) ⊢ outsP c A (k.val + 1))
    (h : Reads A arg0 arg1 arg2 arg3 arg8 x0 x1 x2 x3 x8 →
      (iprop(stagedP c arg0 arg1 arg2 arg3 arg8 x0 x1 x2 x3 x8 ∗ scratchP c A k.val ∗ flyK c A k.val ∗ nextIn c A k.val ∗ P)
        ⊢ wp frame (wpE (defs₀ (F := F)) 𝒱₀ (c : Thread nD τ) none) Set.univ (tripG arg0 harg0 arg1 harg1 arg2 harg2 arg3 harg3 arg8 harg8 k)
          (fun _ => iprop(stagedP c arg0 arg1 arg2 arg3 arg8 x0 x1 x2 x3 x8 ∗ scratchP c A (k.val + 1) ∗ homeK c A k.val ∗ nextOut c A k.val ∗ Q)))) :
    invP c A arg0 arg1 arg2 arg3 arg8 x0 x1 x2 x3 x8 k.val
      ⊢ wp frame (wpE (defs₀ (F := F)) 𝒱₀ (c : Thread nD τ) none) Set.univ (tripG arg0 harg0 arg1 harg1 arg2 harg2 arg3 harg3 arg8 harg8 k)
        (fun _ => invP c A arg0 arg1 arg2 arg3 arg8 x0 x1 x2 x3 x8 (k.val + 1)) := by
  have hk := trip_lt k
  unfold invP
  iintro ⟨%R, HX, HS, HR, HU⟩
  ihave HR' := (ring_take c A k.val hk) $$ HR
  icases HR' with ⟨HF, HN, HR⟩
  ihave HU' := hin $$ HU
  icases HU' with ⟨HP, HT⟩
  iapply (wp_wand_r Idealize.ShloMosaic.frame (wpE (defs₀ (F := F)) 𝒱₀ (c : Thread nD τ) none) Set.univ)
  isplitl [HX HS HF HN HP]
  · iapply (h R)
    isplitl [HX]; · iexact HX
    isplitl [HS]; · iexact HS
    isplitl [HF]; · iexact HF
    isplitl [HN]; · iexact HN
    iexact HP
  iintro %_ ⟨HX, HS, HF, HN, HQ⟩
  isplitr; · ipureintro; exact R
  isplitl [HX]; · iexact HX
  isplitl [HS]; · iexact HS
  isplitl [HF HN HR]
  · iapply (ring_put c A k.val hk)
    isplitl [HF]; · iexact HF
    isplitl [HN]; · iexact HN
    iexact HR
  iapply hout
  isplitl [HQ]; · iexact HQ
  iexact HT

/-! What a trip takes of the results and what it puts back. -/

theorem outs_quiet_in (k : ℕ) : outsP c A k ⊢ iprop(owesP (F := F) c ∗ partC c A (cntC k) ∗ partH c A (cntH k) ∗ partO c A (cntO k)) := by
  unfold outsP
  iintro ⟨HC, HH, HO, HW⟩
  isplitl [HW]; · iexact HW
  isplitl [HC]; · iexact HC
  isplitl [HH]; · iexact HH
  iexact HO
theorem outs_quiet_out (k : ℕ) (hk : k < 16) (hq : k % 8 / 2 < 2) :
    iprop(owesP (F := F) c ∗ partC c A (cntC k) ∗ partH c A (cntH k) ∗ partO c A (cntO k)) ⊢ outsP c A (k + 1) := by
  unfold outsP
  rw [cntC_off k hk (by omega), cntH_off k hk (by omega), cntO_off k hk (by omega)]
  iintro ⟨HW, HC, HH, HO⟩
  isplitl [HC]; · iexact HC
  isplitl [HH]; · iexact HH
  isplitl [HO]; · iexact HO
  iexact HW

theorem outs_c_in (k : ℕ) (hk : k < 16) (hq : k % 8 / 2 = 2) :
    outsP c A k ⊢ iprop((pairC (F := F) c (stK k) ∗ sentC c A (stK k).val ∗ owesP (F := F) c)
      ∗ bigSep (Transfers.pending ((stK k).val + 1)) (pairC (F := F) c) ∗ partH c A (cntH k) ∗ partO c A (cntO k)) := by
  unfold outsP
  rw [(cntC_at k hk hq).1]
  iintro ⟨HC, HH, HO, HW⟩
  ihave HC' := (partC_take c A (stK k)) $$ HC
  icases HC' with ⟨HP, HB, HC⟩
  isplitl [HP HB HW]
  · isplitl [HP]; · iexact HP
    isplitl [HB]; · iexact HB
    iexact HW
  isplitl [HC]; · iexact HC
  isplitl [HH]; · iexact HH
  iexact HO
theorem outs_c_out (k : ℕ) (hk : k < 16) (hq : k % 8 / 2 = 2) :
    iprop((sentC c A ((stK k).val + 1) ∗ owesP (F := F) c)
      ∗ bigSep (Transfers.pending ((stK k).val + 1)) (pairC (F := F) c) ∗ partH c A (cntH k) ∗ partO c A (cntO k)) ⊢ outsP c A (k + 1) := by
  unfold outsP
  rw [(cntC_at k hk hq).2, cntH_off k hk (by omega), cntO_off k hk (by omega)]
  unfold partC
  iintro ⟨⟨HB, HW⟩, HC, HH, HO⟩
  isplitl [HB HC]
  · isplitl [HB]; · iexact HB
    iexact HC
  isplitl [HH]; · iexact HH
  isplitl [HO]; · iexact HO
  iexact HW

theorem outs_h_in (k : ℕ) (hk : k < 16) (hq : k % 8 / 2 = 3) :
    outsP c A k ⊢ iprop((pairH (F := F) c (stK k) ∗ sentH c A (stK k).val ∗ owesP (F := F) c)
      ∗ bigSep (Transfers.pending ((stK k).val + 1)) (pairH (F := F) c) ∗ partC c A (cntC k) ∗ partO c A (cntO k)) := by
  unfold outsP
  rw [(cntH_at k hk hq).1]
  iintro ⟨HC, HH, HO, HW⟩
  ihave HH' := (partH_take c A (stK k)) $$ HH
  icases HH' with ⟨HP, HB, HH⟩
  isplitl [HP HB HW]
  · isplitl [HP]; · iexact HP
    isplitl [HB]; · iexact HB
    iexact HW
  isplitl [HH]; · iexact HH
  isplitl [HC]; · iexact HC
  iexact HO
theorem outs_h_out (k : ℕ) (hk : k < 16) (hq : k % 8 / 2 = 3) (hl : k / 8 = 0) :
    iprop((sentH c A ((stK k).val + 1) ∗ owesP (F := F) c)
      ∗ bigSep (Transfers.pending ((stK k).val + 1)) (pairH (F := F) c) ∗ partC c A (cntC k) ∗ partO c A (cntO k)) ⊢ outsP c A (k + 1) := by
  unfold outsP
  rw [(cntH_at k hk hq).2, cntC_off k hk (by omega), cntO_off k hk (by omega)]
  unfold partH
  iintro ⟨⟨HB, HW⟩, HH, HC, HO⟩
  isplitl [HC]; · iexact HC
  isplitl [HB HH]
  · isplitl [HB]; · iexact HB
    iexact HH
  isplitl [HO]; · iexact HO
  iexact HW

theorem outs_ho_in (k : ℕ) (hk : k < 16) (hq : k % 8 / 2 = 3) (hl : k / 8 = 1) :
    outsP c A k ⊢ iprop((pairH (F := F) c (stK k) ∗ sentH c A (stK k).val ∗ pairO (F := F) c (hfK k) ∗ sentO c A (hfK k).val ∗ owesP (F := F) c)
      ∗ bigSep (Transfers.pending ((stK k).val + 1)) (pairH (F := F) c) ∗ bigSep (Transfers.pending ((hfK k).val + 1)) (pairO (F := F) c) ∗ partC c A (cntC k)) := by
  unfold outsP
  rw [(cntH_at k hk hq).1, (cntO_at k hk hq hl).1]
  iintro ⟨HC, HH, HO, HW⟩
  ihave HH' := (partH_take c A (stK k)) $$ HH
  icases HH' with ⟨HP, HB, HH⟩
  ihave HO' := (partO_take c A (hfK k)) $$ HO
  icases HO' with ⟨HQ, HD, HO⟩
  isplitl [HP HB HQ HD HW]
  · isplitl [HP]; · iexact HP
    isplitl [HB]; · iexact HB
    isplitl [HQ]; · iexact HQ
    isplitl [HD]; · iexact HD
    iexact HW
  isplitl [HH]; · iexact HH
  isplitl [HO]; · iexact HO
  iexact HC
theorem outs_ho_out (k : ℕ) (hk : k < 16) (hq : k % 8 / 2 = 3) (hl : k / 8 = 1) :
    iprop((sentH c A ((stK k).val + 1) ∗ sentO c A ((hfK k).val + 1) ∗ owesP (F := F) c)
      ∗ bigSep (Transfers.pending ((stK k).val + 1)) (pairH (F := F) c) ∗ bigSep (Transfers.pending ((hfK k).val + 1)) (pairO (F := F) c) ∗ partC c A (cntC k)) ⊢ outsP c A (k + 1) := by
  unfold outsP
  rw [(cntH_at k hk hq).2, (cntO_at k hk hq hl).2, cntC_off k hk (by omega)]
  unfold partH partO
  iintro ⟨⟨HB, HD, HW⟩, HH, HO, HC⟩
  isplitl [HC]; · iexact HC
  isplitl [HB HH]
  · isplitl [HB]; · iexact HB
    iexact HH
  isplitl [HD HO]
  · isplitl [HD]; · iexact HD
    iexact HO
  iexact HW

/-- One trip. -/
theorem inv_step (k : Trip) :
    invP c A arg0 arg1 arg2 arg3 arg8 x0 x1 x2 x3 x8 k.val
      ⊢ wp frame (wpE (defs₀ (F := F)) 𝒱₀ (c : Thread nD τ) none) Set.univ (tripG arg0 harg0 arg1 harg1 arg2 harg2 arg3 harg3 arg8 harg8 k)
        (fun _ => invP c A arg0 arg1 arg2 arg3 arg8 x0 x1 x2 x3 x8 (k.val + 1)) := by
  have hk := trip_lt k
  rcases (by omega : k.val % 8 / 2 = 0 ∨ k.val % 8 / 2 = 1 ∨ k.val % 8 / 2 = 2 ∨ (k.val % 8 / 2 = 3 ∧ k.val / 8 = 0) ∨ (k.val % 8 / 2 = 3 ∧ k.val / 8 = 1)) with h | h | h | ⟨h, hl⟩ | ⟨h, hl⟩
  · exact step_of c A arg0 harg0 arg1 harg1 arg2 harg2 arg3 harg3 arg8 harg8 x0 x1 x2 x3 x8 k _ _ _ (outs_quiet_in c A k.val) (outs_quiet_out c A k.val hk (by omega))
      fun R => trip0 c A arg0 harg0 arg1 harg1 arg2 harg2 arg3 harg3 arg8 harg8 x0 x1 x2 x3 x8 R k h
  · exact step_of c A arg0 harg0 arg1 harg1 arg2 harg2 arg3 harg3 arg8 harg8 x0 x1 x2 x3 x8 k _ _ _ (outs_quiet_in c A k.val) (outs_quiet_out c A k.val hk (by omega))
      fun R => trip1 c A arg0 harg0 arg1 harg1 arg2 harg2 arg3 harg3 arg8 harg8 x0 x1 x2 x3 x8 R k h
  · exact step_of c A arg0 harg0 arg1 harg1 arg2 harg2 arg3 harg3 arg8 harg8 x0 x1 x2 x3 x8 k _ _ _ (outs_c_in c A k.val hk h) (outs_c_out c A k.val hk h)
      fun R => trip2 c A arg0 harg0 arg1 harg1 arg2 harg2 arg3 harg3 arg8 harg8 x0 x1 x2 x3 x8 R k h
  · exact step_of c A arg0 harg0 arg1 harg1 arg2 harg2 arg3 harg3 arg8 harg8 x0 x1 x2 x3 x8 k _ _ _ (outs_h_in c A k.val hk h) (outs_h_out c A k.val hk h hl)
      fun R => trip3 c A arg0 harg0 arg1 harg1 arg2 harg2 arg3 harg3 arg8 harg8 x0 x1 x2 x3 x8 R k h hl
  · exact step_of c A arg0 harg0 arg1 harg1 arg2 harg2 arg3 harg3 arg8 harg8 x0 x1 x2 x3 x8 k _ _ _ (outs_ho_in c A k.val hk h hl) (outs_ho_out c A k.val hk h hl)
      fun R => trip4 c A arg0 harg0 arg1 harg1 arg2 harg2 arg3 harg3 arg8 harg8 x0 x1 x2 x3 x8 R k h hl

set_option warn.classDefReducibility false in
/-- The loop by that invariant. -/
@[sl_loop] def loopInv :
    LoopInvTy_k0_t1 (F := F) Unit ℕ (UU nD τ) ℕ 𝒱₀ c none Set.univ arg0 harg0 arg1 harg1 arg2 harg2 arg3 harg3 wih0 (Memref.isWhole_whole _) whh0 (Memref.isWhole_whole _) wih1 (Memref.isWhole_whole _) whh1 (Memref.isWhole_whole _) arg8 harg8
      outM (Memref.isWhole_whole _) nhM (Memref.isWhole_whole _) ncM (Memref.isWhole_whole _) bufM (Memref.isWhole_whole _) igM (Memref.isWhole_whole _) fgM (Memref.isWhole_whole _) tcM (Memref.isWhole_whole _) h1M (Memref.isWhole_whole _)
      nhS (Memref.isWhole_whole _) ncS (Memref.isWhole_whole _) outS (Memref.isWhole_whole _) cc0_scratch8 cc0_scratch9 where
  inv k _ := invP c A arg0 arg1 arg2 arg3 arg8 x0 x1 x2 x3 x8 k
  step k _ := inv_step c A arg0 harg0 arg1 harg1 arg2 harg2 arg3 harg3 arg8 harg8 x0 x1 x2 x3 x8 k

end Loop

end Cert.Proof.KernelIdeal

end
-- ==== Proof.KernelIdealBlocks.lean ====
/-
  An array held whole is its blocks held: the weights' row blocks, the slots of the weight buffer, the column blocks of the
  state arrays and of the output.
-/
module

public import proofs.«01_k».proof.Proof.KernelIdealRing

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## A memref cut into the blocks of a partition of its indices -/

section Cut
variable {ι : Type} [Fintype ι] [DecidableEq ι] {s : Shape} (r : ι → Rect s) (p : s.Idx → ι) (hp : ∀ b y, y ∈ (r b).set ↔ p y = b)
variable (c : Dev nD) {sp : Space} (M : Memref sig .tc sp s .f32)

include hp in
theorem cut_disjoint (b b' : ι) (hne : b ≠ b') : Disjoint (M.view.slice (r b)).set (M.view.slice (r b')).set := by
  rw [View.set_slice, View.set_slice, Finset.disjoint_map, Finset.disjoint_left]
  intro y h h'
  exact hne (((hp b y).1 h).symm.trans ((hp b' y).1 h'))
include hp in
theorem cut_cover : Finset.biUnion (β := Idx (M.view.loc (c : Thread nD τ))) Finset.univ (fun b => (M.view.slice (r b)).set) = M.view.set := by
  ext i
  rw [Finset.mem_biUnion]
  constructor
  · rintro ⟨b, -, h⟩; exact View.set_slice_subset _ _ h
  · intro h
    obtain ⟨y, -, e⟩ := Finset.mem_map.1 h
    exact ⟨p y, Finset.mem_univ _, by rw [View.set_slice]; exact Finset.mem_map.2 ⟨y, (hp _ _).2 rfl, e⟩⟩
include hp in
theorem cut_eq (f : Buf (Elt F) (M.view.loc (c : Thread nD τ))) :
    (M.view.loc (c : Thread nD τ) ↦[M.view.set]{fullShare} f : sProp 𝕄)
      = bigSep Finset.univ fun b => M.view.loc (c : Thread nD τ) ↦[(M.view.slice (r b)).set]{fullShare} f := by
  have e := pointsTo_biUnion (Ix := Unit) (Name := ℕ) (U := UU nD τ) (Lvl := ℕ) (ℓ := M.view.loc (c : Thread nD τ)) (q := fullShare) (f := f)
    Finset.univ (fun b => (M.view.slice (r b)).set) fun b _ b' _ h => cut_disjoint r p hp M b b' h
  exact (congrArg (fun S => (M.view.loc (c : Thread nD τ) ↦[S]{fullShare} f : sProp 𝕄)) (cut_cover r p hp c M).symm).trans e
include hp in
theorem cut_join (f₀ : Buf (Elt F) (M.view.loc (c : Thread nD τ))) :
    bigSep Finset.univ (fun b => iprop(∃ f, M.view.loc (c : Thread nD τ) ↦[(M.view.slice (r b)).set]{fullShare} f))
      ⊢ (iprop(∃ f, M.view.loc (c : Thread nD τ) ↦[M.view.set]{fullShare} f) : sProp 𝕄) := by
  have : Nonempty (Buf (Elt F) (M.view.loc (c : Thread nD τ))) := ⟨f₀⟩
  refine (bigSep_exists_pi Finset.univ (fun b (f : Buf (Elt F) (M.view.loc (c : Thread nD τ))) =>
    (M.view.loc (c : Thread nD τ) ↦[(M.view.slice (r b)).set]{fullShare} f : sProp 𝕄))).trans ?_
  iintro ⟨%fs, H⟩
  ihave H' := (pointsTo_biUnion_join Finset.univ (fun b => (M.view.slice (r b)).set) fs f₀ fun b _ b' _ h => cut_disjoint r p hp M b b' h) $$ H
  icases H' with ⟨%g, -, H⟩
  iexists g
  iapply (Entails.of_eq (congrArg (fun S => (M.view.loc (c : Thread nD τ) ↦[S]{fullShare} g : sProp 𝕄)) (cut_cover r p hp c M)))
  iexact H
end Cut

/-! ## The four partitions -/

theorem mem_w (b : Fin 8) (y : S4096x1024.Idx) :
    y ∈ (Rect.unit (s := S4096x1024) (wOff b) S512x1024.size (wOff_inb b)).set ↔ (Fin.ofNat 8 ((y 0).val / 512)) = b := by
  rw [Rect.mem_set_unit]
  have h0 : (y 0).val < 4096 := (y 0).isLt
  have h1 : (y 1).val < 1024 := (y 1).isLt
  have hb := b.isLt
  have e : Fin.ofNat 8 ((y 0).val / 512) = b ↔ (y 0).val / 512 % 8 = b.val := Fin.ext_iff
  rw [e]
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 1024; omega
theorem mem_slot (b : Fin 4 × Fin 2) (y : S4x2x512x1024.Idx) :
    y ∈ (Rect.unit (s := S4x2x512x1024) (slotOff b.1 b.2) S1x1x512x1024.size (slotOff_inb b.1 b.2)).set ↔ ((y 0, y 1) : Fin 4 × Fin 2) = b := by
  rw [Rect.mem_set_unit]
  have h2 : (y 2).val < 512 := (y 2).isLt
  have h3 : (y 3).val < 1024 := (y 3).isLt
  have e : ((y 0, y 1) : Fin 4 × Fin 2) = b ↔ (y 0).val = b.1.val ∧ (y 1).val = b.2.val :=
    ⟨fun h => by rw [← h]; exact ⟨rfl, rfl⟩, fun h => Prod.ext (Fin.ext h.1) (Fin.ext h.2)⟩
  rw [e]
  constructor
  · intro H
    have a0 : b.1.val ≤ (y 0).val ∧ (y 0).val < b.1.val + 1 := H 0
    have a1 : b.2.val ≤ (y 1).val ∧ (y 1).val < b.2.val + 1 := H 1
    omega
  · intro H i; fin_cases i
    · show b.1.val ≤ (y 0).val ∧ (y 0).val < b.1.val + 1; omega
    · show b.2.val ≤ (y 1).val ∧ (y 1).val < b.2.val + 1; omega
    · show 0 ≤ (y 2).val ∧ (y 2).val < 0 + 512; omega
    · show 0 ≤ (y 3).val ∧ (y 3).val < 0 + 1024; omega
theorem mem_h (j : Fin 4) (y : S2x128x1024.Idx) :
    y ∈ (Rect.unit (s := S2x128x1024) (hOff j) S1x128x512.size (hOff_inb j)).set ↔ (Fin.ofNat 4 (2 * (y 0).val + (y 2).val / 512)) = j := by
  rw [Rect.mem_set_unit]
  have h0 : (y 0).val < 2 := (y 0).isLt
  have h1 : (y 1).val < 128 := (y 1).isLt
  have h2 : (y 2).val < 1024 := (y 2).isLt
  have hj := j.isLt
  have e : Fin.ofNat 4 (2 * (y 0).val + (y 2).val / 512) = j ↔ (2 * (y 0).val + (y 2).val / 512) % 4 = j.val := Fin.ext_iff
  rw [e]
  constructor
  · intro H
    have a0 : j.val / 2 ≤ (y 0).val ∧ (y 0).val < j.val / 2 + 1 := H 0
    have a2 : 512 * (j.val % 2) ≤ (y 2).val ∧ (y 2).val < 512 * (j.val % 2) + 512 := H 2
    omega
  · intro H i; fin_cases i
    · show j.val / 2 ≤ (y 0).val ∧ (y 0).val < j.val / 2 + 1; omega
    · show 0 ≤ (y 1).val ∧ (y 1).val < 0 + 128; omega
    · show 512 * (j.val % 2) ≤ (y 2).val ∧ (y 2).val < 512 * (j.val % 2) + 512; omega
theorem mem_c (s : Fin 2) (y : S128x1024.Idx) :
    y ∈ (Rect.unit (s := S128x1024) (cOff s) S128x512.size (cOff_inb s)).set ↔ (Fin.ofNat 2 ((y 1).val / 512)) = s := by
  rw [Rect.mem_set_unit]
  have h0 : (y 0).val < 128 := (y 0).isLt
  have h1 : (y 1).val < 1024 := (y 1).isLt
  have hs := s.isLt
  have e : Fin.ofNat 2 ((y 1).val / 512) = s ↔ (y 1).val / 512 % 2 = s.val := Fin.ext_iff
  rw [e]
  constructor
  · intro H; have a1 : 512 * s.val ≤ (y 1).val ∧ (y 1).val < 512 * s.val + 512 := H 1; omega
  · intro H i; fin_cases i
    · show 0 ≤ (y 0).val ∧ (y 0).val < 0 + 128; omega
    · show 512 * s.val ≤ (y 1).val ∧ (y 1).val < 512 * s.val + 512; omega

/-! ## The buffers and their blocks -/

section Arrays
variable (c : Dev nD) (A : Args F)

/-- A buffer held whole, wherever it lies. -/
abbrev allP {sp : Space} {s : Shape} (M : Memref sig .tc sp s .f32) (f : Buf (Elt F) (M.view.loc (c : Thread nD τ))) : sProp 𝕄 :=
  M.view.loc (c : Thread nD τ) ↦[M.view.set]{fullShare} f

theorem w_eq (M : Memref sig .tc .hbm S4096x1024 .f32) (X : Buf (Elt F) (M.view.loc (c : Thread nD τ))) :
    allP c M X = bigSep Finset.univ (homeP c M X) :=
  cut_eq _ _ mem_w c M X
theorem h_eq {sp : Space} (M : Memref sig .tc sp S2x128x1024 .f32) (f : Buf (Elt F) (M.view.loc (c : Thread nD τ))) :
    allP c M f = bigSep Finset.univ fun j => hpts c M j f :=
  (cut_eq _ _ mem_h c M f).trans (bigSep_congr fun j _ =>
    congrArg (fun S => (M.view.loc (c : Thread nD τ) ↦[S]{fullShare} f : sProp 𝕄)) (View.set_reshape _ _).symm)
theorem c_eq {sp : Space} (M : Memref sig .tc sp S128x1024 .f32) (f : Buf (Elt F) (M.view.loc (c : Thread nD τ))) :
    allP c M f = bigSep Finset.univ fun s => cpts c M s f :=
  cut_eq _ _ mem_c c M f

theorem slot_pts (s : Fin 4) (i : Fin 2) (f : Buf (Elt F) (bufM.view.loc (c : Thread nD τ))) :
    slotP c s i f = (bufM.view.loc (c : Thread nD τ) ↦[(bufM.view.slice (Rect.unit (s := S4x2x512x1024) (slotOff s i) S1x1x512x1024.size (slotOff_inb s i))).set]{fullShare} f : sProp 𝕄) :=
  congrArg (fun S => (bufM.view.loc (c : Thread nD τ) ↦[S]{fullShare} f : sProp 𝕄)) (View.set_reshape _ _)
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The weight buffer is its slots; -/
theorem buf_split (f : Buf (Elt F) (bufM.view.loc (c : Thread nD τ))) :
    allP c bufM f ⊢ bigSep Finset.univ fun s => iprop(slotP c s 0 f ∗ slotP c s 1 f) := by
  exact Entails.of_eq ((cut_eq _ _ mem_slot c bufM f).trans ((bigSep_univ_prod _).trans (bigSep_congr fun s _ =>
    (bigSep_fin2 _).trans (congrArg₂ BI.sep (slot_pts c s 0 f).symm (slot_pts c s 1 f).symm))))
/-- and free slots are the weight buffer and their semaphores at zero. -/
theorem buf_join :
    bigSep Finset.univ (freeK (F := F) c)
      ⊢ iprop((∃ f, allP (F := F) c bufM f) ∗ bigSep Finset.univ fun s => iprop(cellP (F := F) c s 0 ∗ cellP (F := F) c s 1)) := by
  have h1 : bigSep Finset.univ (freeK (F := F) c)
      ⊢ bigSep Finset.univ fun s => iprop((bigSep Finset.univ fun i => iprop(∃ f, bufM.view.loc (c : Thread nD τ) ↦[(bufM.view.slice (Rect.unit (s := S4x2x512x1024) (slotOff s i) S1x1x512x1024.size (slotOff_inb s i))).set]{fullShare} f))
          ∗ (cellP (F := F) c s 0 ∗ cellP (F := F) c s 1)) := by
    refine bigSep_mono fun s _ => ?_
    refine show freeK (F := F) c s ⊢ iprop((bigSep Finset.univ fun i => iprop(∃ f, bufM.view.loc (c : Thread nD τ) ↦[(bufM.view.slice (Rect.unit (s := S4x2x512x1024) (slotOff s i) S1x1x512x1024.size (slotOff_inb s i))).set]{fullShare} f))
          ∗ (cellP (F := F) c s 0 ∗ cellP (F := F) c s 1)) from ?_
    rw [bigSep_fin2]
    unfold freeK
    iintro ⟨%f0, %f1, H0, H1, HC0, HC1⟩
    isplitl [H0 H1]
    · isplitl [H0]
      · iexists f0; iapply (Entails.of_eq (slot_pts c s 0 f0)); iexact H0
      · iexists f1; iapply (Entails.of_eq (slot_pts c s 1 f1)); iexact H1
    isplitl [HC0]; · iexact HC0
    iexact HC1
  refine h1.trans ((Entails.of_eq (bigSep_sep _ _ _)).trans (BIClass.sep_mono ?_ .rfl))
  rw [← bigSep_univ_prod fun b : Fin 4 × Fin 2 => iprop(∃ f, bufM.view.loc (c : Thread nD τ) ↦[(bufM.view.slice (Rect.unit (s := S4x2x512x1024) (slotOff b.1 b.2) S1x1x512x1024.size (slotOff_inb b.1 b.2))).set]{fullShare} f)]
  exact cut_join _ _ mem_slot c bufM bufM.view.junk

/-- All chunks at home are the four weight matrices. -/
theorem homes_eq :
    bigSep (Finset.range 16) (homeK c A)
      = iprop((allP c wih0 (A.wi 0) ∗ allP c whh0 (A.wh 0)) ∗ (allP c wih1 (A.wi 1) ∗ allP c whh1 (A.wh 1))) := by
  have eu : Finset.range 16 = Finset.range 8 ∪ Finset.Ico 8 16 := by
    ext j; simp only [Finset.mem_range, Finset.mem_union, Finset.mem_Ico]; omega
  have hd : Disjoint (Finset.range 8) (Finset.Ico 8 16) := by
    rw [Finset.disjoint_left]; intro j h h'; have := Finset.mem_range.1 h; have := Finset.mem_Ico.1 h'; omega
  have e0 : bigSep (Finset.range 8) (homeK c A) = iprop(allP c wih0 (A.wi 0) ∗ allP c whh0 (A.wh 0)) := by
    rw [w_eq, w_eq]
    refine Eq.trans ?_ (bigSep_sep Finset.univ (homeP c wih0 (A.wi 0)) (homeP c whh0 (A.wh 0)))
    refine (Ring.bigSep_fin_eq_range 8 _ _ fun t h => ?_).symm
    have eb : blK t = ⟨t, h⟩ := Fin.ext (Nat.mod_eq_of_lt h)
    unfold homeK
    rw [if_pos h, eb]; rfl
  have e1 : bigSep (Finset.Ico 8 16) (homeK c A) = iprop(allP c wih1 (A.wi 1) ∗ allP c whh1 (A.wh 1)) := by
    rw [w_eq, w_eq]
    refine Eq.trans ?_ (bigSep_sep Finset.univ (homeP c wih1 (A.wi 1)) (homeP c whh1 (A.wh 1)))
    have em : Finset.Ico 8 16 = (Finset.range 8).map (addRightEmbedding 8) := by
      ext j; simp only [Finset.mem_Ico, Finset.mem_map, Finset.mem_range, addRightEmbedding_apply]
      exact ⟨fun h => ⟨j - 8, by omega, by omega⟩, fun ⟨i, h, e⟩ => by omega⟩
    rw [em, bigSep_map]
    refine (Ring.bigSep_fin_eq_range 8 _ _ fun t h => ?_).symm
    have eb : blK (t + 8) = ⟨t, h⟩ := Fin.ext (by show (t + 8) % 8 = t; omega)
    show homeK c A (t + 8) = _
    unfold homeK
    rw [if_neg (by omega), eb]; rfl
  rw [eu, bigSep_union hd, e0, e1]; rfl

/-- A result and the buffer it is computed in, held whole, are its pairs of blocks; -/
theorem pairC_split (f : Buf (Elt F) (ncM.view.loc (c : Thread nD τ))) (g : Buf (Elt F) (ncS.view.loc (c : Thread nD τ))) :
    iprop(allP c ncM f ∗ allP c ncS g) ⊢ bigSep Finset.univ (pairC (F := F) c) := by
  rw [h_eq, h_eq]
  refine (Entails.of_eq (bigSep_sep _ _ _).symm).trans (bigSep_mono fun j _ => ?_)
  refine show iprop(hpts c ncM j f ∗ hpts c ncS j g) ⊢ pairC (F := F) c j from ?_
  unfold pairC
  iintro ⟨H1, H2⟩
  iexists f, g
  isplitl [H1]; · iexact H1
  iexact H2
theorem pairH_split (f : Buf (Elt F) (nhM.view.loc (c : Thread nD τ))) (g : Buf (Elt F) (nhS.view.loc (c : Thread nD τ))) :
    iprop(allP c nhM f ∗ allP c nhS g) ⊢ bigSep Finset.univ (pairH (F := F) c) := by
  rw [h_eq, h_eq]
  refine (Entails.of_eq (bigSep_sep _ _ _).symm).trans (bigSep_mono fun j _ => ?_)
  refine show iprop(hpts c nhM j f ∗ hpts c nhS j g) ⊢ pairH (F := F) c j from ?_
  unfold pairH
  iintro ⟨H1, H2⟩
  iexists f, g
  isplitl [H1]; · iexact H1
  iexact H2
theorem pairO_split (f : Buf (Elt F) (outM.view.loc (c : Thread nD τ))) (g : Buf (Elt F) (outS.view.loc (c : Thread nD τ))) :
    iprop(allP c outM f ∗ allP c outS g) ⊢ bigSep Finset.univ (pairO (F := F) c) := by
  rw [c_eq, c_eq]
  refine (Entails.of_eq (bigSep_sep _ _ _).symm).trans (bigSep_mono fun j _ => ?_)
  refine show iprop(cpts c outM j f ∗ cpts c outS j g) ⊢ pairO (F := F) c j from ?_
  unfold pairO
  iintro ⟨H1, H2⟩
  iexists f, g
  isplitl [H1]; · iexact H1
  iexact H2
/-- and with every block done, the result holds its values. -/
theorem doneC_join : bigSep Finset.univ (doneC c A) = iprop(allP c ncM (Gnc A) ∗ allP c ncS (Gnc A)) := by
  rw [h_eq, h_eq]; exact bigSep_sep _ _ _
theorem doneH_join : bigSep Finset.univ (doneH c A) = iprop(allP c nhM (Gnh A) ∗ allP c nhS (Gnh A)) := by
  rw [h_eq, h_eq]; exact bigSep_sep _ _ _
theorem doneO_join : bigSep Finset.univ (doneO c A) = iprop(allP c outM (Gout A) ∗ allP c outS (Gout A)) := by
  rw [c_eq, c_eq]; exact bigSep_sep _ _ _

end Arrays

end Cert.Proof.KernelIdeal

end
-- ==== Proof.KernelIdealBody.lean ====
/-
  The kernel's body: four chunks sent for, the loop, and the waits for the results.
-/
module

public import proofs.«01_k».proof.Proof.KernelIdealLoop
public import proofs.«01_k».proof.Proof.KernelIdealBlocks

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Body
variable (c : Dev nD) (A : Args F)
  (arg0 : Memref sig .tc .vmem S128x1024 .f32) (harg0 : arg0.IsWhole) (arg1 : Memref sig .tc .vmem S128x1 .f32) (harg1 : arg1.IsWhole)
  (arg2 : Memref sig .tc .vmem S2x128x1024 .f32) (harg2 : arg2.IsWhole) (arg3 : Memref sig .tc .vmem S2x128x1024 .f32) (harg3 : arg3.IsWhole)
  (arg8 : Memref sig .tc .vmem S2x4096 .f32) (harg8 : arg8.IsWhole)

variable (x0 : arg0.view.ty.Contents (Elt F)) (x1 : arg1.view.ty.Contents (Elt F)) (x2 : arg2.view.ty.Contents (Elt F))
    (x3 : arg3.view.ty.Contents (Elt F)) (x8 : arg8.view.ty.Contents (Elt F))

/-- The body at the kernel's buffers. -/
abbrev bodyG : Prog (TpuEff nD τ sig (Elt F) Λ₀ .tc) PUnit :=
  cc0__body (F := F) arg0 harg0 arg1 harg1 arg2 harg2 arg3 harg3 wih0 (Memref.isWhole_whole _) whh0 (Memref.isWhole_whole _) wih1 (Memref.isWhole_whole _) whh1 (Memref.isWhole_whole _) arg8 harg8
    outM (Memref.isWhole_whole _) nhM (Memref.isWhole_whole _) ncM (Memref.isWhole_whole _) bufM (Memref.isWhole_whole _) igM (Memref.isWhole_whole _) fgM (Memref.isWhole_whole _) tcM (Memref.isWhole_whole _) h1M (Memref.isWhole_whole _)
    nhS (Memref.isWhole_whole _) ncS (Memref.isWhole_whole _) outS (Memref.isWhole_whole _) cc0_scratch8 cc0_scratch9

/-- The four weight matrices. -/
def weightsP : sProp 𝕄 := iprop((allP c wih0 (A.wi 0) ∗ allP c whh0 (A.wh 0)) ∗ (allP c wih1 (A.wi 1) ∗ allP c whh1 (A.wh 1)))
/-- The buffers the kernel works in, at anything. -/
def anyP {sp : Space} {s : Shape} (M : Memref sig .tc sp s .f32) : sProp 𝕄 := iprop(∃ f, allP (F := F) c M f)
def workP : sProp 𝕄 :=
  iprop(anyP (F := F) c bufM ∗ anyP (F := F) c igM ∗ anyP (F := F) c fgM ∗ anyP (F := F) c tcM ∗ anyP (F := F) c h1M
    ∗ anyP (F := F) c nhS ∗ anyP (F := F) c ncS ∗ anyP (F := F) c outS)
/-- The kernel's own semaphores at zero. -/
def semsP : sProp 𝕄 :=
  iprop((bigSep Finset.univ fun s => iprop(cellP (F := F) c s 0 ∗ cellP (F := F) c s 1)) ∗ ocellP (F := F) c 0 ∗ ocellP (F := F) c 1 ∗ ocellP (F := F) c 2)

/-- The weights before the loop: the first four chunks apart. -/
theorem weights_start : weightsP c A ⊢ iprop((homeP c wih0 (A.wi 0) 0 ∗ homeP c whh0 (A.wh 0) 0) ∗ (homeP c wih0 (A.wi 0) 1 ∗ homeP c whh0 (A.wh 0) 1)
    ∗ (homeP c wih0 (A.wi 0) 2 ∗ homeP c whh0 (A.wh 0) 2) ∗ (homeP c wih0 (A.wi 0) 3 ∗ homeP c whh0 (A.wh 0) 3) ∗ bigSep (Finset.Ico 4 16) (homeK c A)) := by
  have e (k : ℕ) (h : k < 8) (b : Fin 8) (hb : blK k = b) : homeK c A k = iprop(homeP c wih0 (A.wi 0) b ∗ homeP c whh0 (A.wh 0) b) := by
    subst hb; unfold homeK; exact if_pos h
  unfold weightsP
  rw [← homes_eq, bigSep_four, e 0 (by omega) 0 rfl, e 1 (by omega) 1 rfl, e 2 (by omega) 2 rfl, e 3 (by omega) 3 rfl]

/-- A chunk sent for before the loop. -/
theorem fly_start (k : ℕ) (h : k < 8) (s : Fin 4) (hs : slK k = s) (b : Fin 8) (hb : blK k = b)
    (f0 : Buf (Elt F) ((rslot s 0).view.loc (c : Thread nD τ))) (f1 : Buf (Elt F) ((rslot s 1).view.loc (c : Thread nD τ))) :
    iprop(flightP c wih0 (A.wi 0) s 0 b f0 ∗ flightP c whh0 (A.wh 0) s 1 b f1) ⊢ flyK c A k := by
  subst hs hb
  show _ ⊢ flyS c A (slK k) k
  unfold flyS
  rw [if_pos h]
  iintro ⟨H0, H1⟩
  iexists f0, f1
  isplitl [H0]; · iexact H0
  iexact H1

/-- What the body is handed, -/
def preP : sProp 𝕄 :=
  iprop(stagedP c arg0 arg1 arg2 arg3 arg8 x0 x1 x2 x3 x8 ∗ weightsP c A ∗ workP (F := F) c ∗ semsP (F := F) c
    ∗ (anyP (F := F) c outM ∗ anyP (F := F) c nhM ∗ anyP (F := F) c ncM) ∗ owesP (F := F) c)
/-- and what it hands back. -/
def postP : sProp 𝕄 :=
  iprop(stagedP c arg0 arg1 arg2 arg3 arg8 x0 x1 x2 x3 x8 ∗ weightsP c A ∗ workP (F := F) c ∗ semsP (F := F) c
    ∗ (allP c outM (Gout A) ∗ allP c nhM (Gnh A) ∗ allP c ncM (Gnc A)) ∗ owesP (F := F) c)

/-- A buffer's cells may be put away in a batch, -/
theorem stored_pts (ℓ : Loc nD τ sig) (I : Finset (Idx ℓ)) (f : Buf (Elt F) ℓ) : Storable (upEmb : UEmb _ 𝕄) (ℓ ↦[I]{fullShare} f : sProp 𝕄) := inferInstance
theorem stored_two (ℓ ℓ' : Loc nD τ sig) (I : Finset (Idx ℓ)) (I' : Finset (Idx ℓ')) (f : Buf (Elt F) ℓ) (f' : Buf (Elt F) ℓ') :
    Storable (upEmb : UEmb _ 𝕄) iprop((ℓ ↦[I]{fullShare} f) ∗ (ℓ' ↦[I']{fullShare} f')) :=
  haveI := stored_pts ℓ I f
  haveI := stored_pts ℓ' I' f'
  Storable.sep _ _ _
/-- and so may a block sent. -/
instance (t : Fin 4) : Storable (upEmb : UEmb _ 𝕄) (doneC c A t) := stored_two _ _ _ _ _ _
instance (t : Fin 4) : Storable (upEmb : UEmb _ 𝕄) (doneH c A t) := stored_two _ _ _ _ _ _
instance (t : Fin 2) : Storable (upEmb : UEmb _ 𝕄) (doneO c A t) := stored_two _ _ _ _ _ _

/-- The results before the loop: nothing sent. -/
theorem outs_start : iprop(sentC c A 0 ∗ bigSep Finset.univ (pairC (F := F) c) ∗ sentH c A 0 ∗ bigSep Finset.univ (pairH (F := F) c)
    ∗ sentO c A 0 ∗ bigSep Finset.univ (pairO (F := F) c) ∗ owesP (F := F) c) ⊢ outsP c A 0 := by
  have e0 : cntC 0 = 0 := rfl
  have e1 : cntH 0 = 0 := rfl
  have e2 : cntO 0 = 0 := rfl
  unfold outsP partC partH partO
  rw [e0, e1, e2, Transfers.bigSep_pending_zero, Transfers.bigSep_pending_zero, Transfers.bigSep_pending_zero]
  iintro ⟨H1, H2, H3, H4, H5, H6, H7⟩
  isplitl [H1 H2]
  · isplitl [H1]; · iexact H1
    iexact H2
  isplitl [H3 H4]
  · isplitl [H3]; · iexact H3
    iexact H4
  isplitl [H5 H6]
  · isplitl [H5]; · iexact H5
    iexact H6
  iexact H7
/-- After it, everything is sent, the weights are home and the ring's slots free. -/
theorem outs_end : outsP c A 16 ⊢ iprop(sentC c A 4 ∗ sentH c A 4 ∗ sentO c A 2 ∗ owesP (F := F) c) := by
  have e0 : cntC 16 = 4 := rfl
  have e1 : cntH 16 = 4 := rfl
  have e2 : cntO 16 = 2 := rfl
  unfold outsP partC partH partO
  rw [e0, e1, e2]
  iintro ⟨⟨H1, -⟩, ⟨H3, -⟩, ⟨H5, -⟩, H7⟩
  isplitl [H1]; · iexact H1
  isplitl [H3]; · iexact H3
  isplitl [H5]; · iexact H5
  iexact H7

theorem inv_end (n : ℕ) (hn : n = 16) : invP c A arg0 arg1 arg2 arg3 arg8 x0 x1 x2 x3 x8 n
    ⊢ iprop(stagedP c arg0 arg1 arg2 arg3 arg8 x0 x1 x2 x3 x8 ∗ weightsP c A
      ∗ (anyP (F := F) c bufM ∗ anyP (F := F) c igM ∗ anyP (F := F) c fgM ∗ anyP (F := F) c tcM ∗ anyP (F := F) c h1M)
      ∗ (bigSep Finset.univ fun s => iprop(cellP (F := F) c s 0 ∗ cellP (F := F) c s 1))
      ∗ sentC c A 4 ∗ sentH c A 4 ∗ sentO c A 2 ∗ ∃ W, owes (c : Thread nD τ) 0 W) := by
  subst hn
  unfold invP
  iintro ⟨-, HX, ⟨%f1, %f2, %f3, %f4, -, H1, H2, H3, H4⟩, HR, HO⟩
  isplitl [HX]; · iexact HX
  ihave HR' := (ring_end c A) $$ HR
  icases HR' with ⟨HW, HF⟩
  ihave HF' := (buf_join (F := F) c) $$ HF
  icases HF' with ⟨⟨%fb, HB⟩, HE⟩
  isplitl [HW]
  · unfold weightsP
    iapply (Entails.of_eq (homes_eq c A))
    iexact HW
  isplitl [HB H1 H2 H3 H4]
  · unfold anyP
    isplitl [HB]; · iexists fb; iexact HB
    isplitl [H1]; · iexists f1; iexact H1
    isplitl [H2]; · iexists f2; iexact H2
    isplitl [H3]; · iexists f3; iexact H3
    iexists f4; iexact H4
  isplitl [HE]; · iexact HE
  iapply (outs_end c A)
  iexact HO

/-- The blocks sent, together: the whole result and its staging buffer. -/
theorem sent_joinC : iprop((hpts c ncM 0 (Gnc A) ∗ hpts c ncS 0 (Gnc A)) ∗ (hpts c ncM 1 (Gnc A) ∗ hpts c ncS 1 (Gnc A))
    ∗ (hpts c ncM 2 (Gnc A) ∗ hpts c ncS 2 (Gnc A)) ∗ (hpts c ncM 3 (Gnc A) ∗ hpts c ncS 3 (Gnc A))) ⊢ iprop(allP c ncM (Gnc A) ∗ allP c ncS (Gnc A)) :=
  Entails.of_eq ((bigSep_fin4 (doneC c A)).symm.trans (doneC_join c A))
theorem sent_joinH : iprop((hpts c nhM 0 (Gnh A) ∗ hpts c nhS 0 (Gnh A)) ∗ (hpts c nhM 1 (Gnh A) ∗ hpts c nhS 1 (Gnh A))
    ∗ (hpts c nhM 2 (Gnh A) ∗ hpts c nhS 2 (Gnh A)) ∗ (hpts c nhM 3 (Gnh A) ∗ hpts c nhS 3 (Gnh A))) ⊢ iprop(allP c nhM (Gnh A) ∗ allP c nhS (Gnh A)) :=
  Entails.of_eq ((bigSep_fin4 (doneH c A)).symm.trans (doneH_join c A))
theorem sent_joinO : iprop((cpts c outM 0 (Gout A) ∗ cpts c outS 0 (Gout A)) ∗ (cpts c outM 1 (Gout A) ∗ cpts c outS 1 (Gout A)))
    ⊢ iprop(allP c outM (Gout A) ∗ allP c outS (Gout A)) :=
  Entails.of_eq ((bigSep_fin2 (doneO c A)).symm.trans (doneO_join c A))

attribute [local irreducible] invP in
set_option maxHeartbeats 2000000 in
theorem bodyRun (R : Reads A arg0 arg1 arg2 arg3 arg8 x0 x1 x2 x3 x8) (Q : PUnit → sProp 𝕄) :
    iprop(preP c A arg0 arg1 arg2 arg3 arg8 x0 x1 x2 x3 x8 ∗ (postP c A arg0 arg1 arg2 arg3 arg8 x0 x1 x2 x3 x8 -∗ Q ⟨⟩))
      ⊢ wp frame (wpE (defs₀ (F := F)) 𝒱₀ (c : Thread nD τ) none) Set.univ
        (bodyG (F := F) arg0 harg0 arg1 harg1 arg2 harg2 arg3 harg3 arg8 harg8) Q := by
  have h1 := cond1_eq; have h2 := cond2_ne; have h3 := cond3_eq; have h4 := cond4_ne
  have h5 := cond5_eq; have h6 := cond6_ne; have h7 := cond7_eq; have h8 := cond8_ne
  unfold preP workP semsP anyP owesP
  iintro ⟨⟨HX, HWt, ⟨⟨%gb, Hb⟩, ⟨%gi, Hi⟩, ⟨%gf, Hf⟩, ⟨%gt, Ht⟩, ⟨%gh, Hh⟩, ⟨%gnh, Hnh⟩, ⟨%gnc, Hnc⟩, ⟨%go, Ho⟩⟩, ⟨HS, HE0, HE1, HE2⟩, ⟨⟨%ro, Hro⟩, ⟨%rh, Hrh⟩, ⟨%rc, Hrc⟩⟩, ⟨%W, HW⟩⟩, Hk⟩
  ihave HWt' := (weights_start c A) $$ HWt
  icases HWt' with ⟨⟨Hw0, Hv0⟩, ⟨Hw1, Hv1⟩, ⟨Hw2, Hv2⟩, ⟨Hw3, Hv3⟩, Hrest⟩
  ihave Hb' := ((buf_split c gb).trans (Entails.of_eq (bigSep_fin4 _))) $$ Hb
  icases Hb' with ⟨⟨Hb00, Hb01⟩, ⟨Hb10, Hb11⟩, ⟨Hb20, Hb21⟩, ⟨Hb30, Hb31⟩⟩
  ihave HS' := (Entails.of_eq (bigSep_fin4 _)) $$ HS
  icases HS' with ⟨⟨Hs00, Hs01⟩, ⟨Hs10, Hs11⟩, ⟨Hs20, Hs21⟩, ⟨Hs30, Hs31⟩⟩
  ihave HC := (pairC_split c rc gnc) $$ [Hrc Hnc]
  · isplitl [Hrc]; · iexact Hrc
    iexact Hnc
  ihave HH := (pairH_split c rh gnh) $$ [Hrh Hnh]
  · isplitl [Hrh]; · iexact Hrh
    iexact Hnh
  ihave HO := (pairO_split c ro go) $$ [Hro Ho]
  · isplitl [Hro]; · iexact Hro
    iexact Ho
  imod (Transfers.batch_alloc' (countersEmb (U := Pipeline.UD sig nD τ)) (c : Thread nD τ) () 8192 (doneC c A) (sm := SemLoc.dma (osm 0).sem) (E := Set.univ)) $$ HE0 with HBC
  imod (Transfers.batch_alloc' (countersEmb (U := Pipeline.UD sig nD τ)) (c : Thread nD τ) () 8192 (doneH c A) (sm := SemLoc.dma (osm 1).sem) (E := Set.univ)) $$ HE1 with HBH
  imod (Transfers.batch_alloc' (countersEmb (U := Pipeline.UD sig nD τ)) (c : Thread nD τ) () 8192 (doneO c A) (sm := SemLoc.dma (osm 2).sem) (E := Set.univ)) $$ HE2 with HBO
  sl_exec
  ihave HI : (invP c A arg0 arg1 arg2 arg3 arg8 x0 x1 x2 x3 x8 0) $$ [HX Hi Hf Ht Hh HW Hrest HC HH HO HBC HBH HBO Hs00 Hs01 Hs10 Hs11 Hs20 Hs21 Hs30 Hs31]
  · unfold invP
    isplitr; · ipureintro; exact R
    isplitl [HX]; · iexact HX
    isplitl [Hi Hf Ht Hh]
    · iexists gi, gf, gt, gh
      isplitr; · ipureintro; exact Scr.zero A gi gf gt gh
      isplitl [Hi]; · iexact Hi
      isplitl [Hf]; · iexact Hf
      isplitl [Ht]; · iexact Ht
      iexact Hh
    isplitl [Hrest Hs00 Hs01 Hs10 Hs11 Hs20 Hs21 Hs30 Hs31]
    · iapply (ring_start c A)
      isplitl [Hs00 Hs01]
      · iapply (fly_start c A 0 (by omega) 0 rfl 0 rfl gb gb)
        isplitl [Hs00]; · iexact Hs00
        iexact Hs01
      isplitl [Hs10 Hs11]
      · iapply (fly_start c A 1 (by omega) 1 rfl 1 rfl gb gb)
        isplitl [Hs10]; · iexact Hs10
        iexact Hs11
      isplitl [Hs20 Hs21]
      · iapply (fly_start c A 2 (by omega) 2 rfl 2 rfl gb gb)
        isplitl [Hs20]; · iexact Hs20
        iexact Hs21
      isplitl [Hs30 Hs31]
      · iapply (fly_start c A 3 (by omega) 3 rfl 3 rfl gb gb)
        isplitl [Hs30]; · iexact Hs30
        iexact Hs31
      iexact Hrest
    iapply (outs_start c A)
    isplitl [HBC]; · iexact HBC
    isplitl [HC]; · iexact HC
    isplitl [HBH]; · iexact HBH
    isplitl [HH]; · iexact HH
    isplitl [HBO]; · iexact HBO
    isplitl [HO]; · iexact HO
    unfold owesP; iexists W; iexact HW
  sl_exec
  ihave HJ := (inv_end c A arg0 arg1 arg2 arg3 arg8 x0 x1 x2 x3 x8 _ trips_eq) $$ HI
  icases HJ with ⟨HX, HWt, HV, HE, HBC, HBH, HBO, ⟨%W', HW⟩⟩
  sl_exec
  ihave HC := (sent_joinC c A) $$ [HBC_dst0 HBC_src0 HBC_dst1 HBC_src1 HBC_dst2 HBC_src2 HBC_dst3 HBC_src3]
  · isplitl [HBC_dst0 HBC_src0]
    · isplitl [HBC_dst0]; · iexact HBC_dst0
      iexact HBC_src0
    isplitl [HBC_dst1 HBC_src1]
    · isplitl [HBC_dst1]; · iexact HBC_dst1
      iexact HBC_src1
    isplitl [HBC_dst2 HBC_src2]
    · isplitl [HBC_dst2]; · iexact HBC_dst2
      iexact HBC_src2
    isplitl [HBC_dst3]; · iexact HBC_dst3
    iexact HBC_src3
  ihave HH := (sent_joinH c A) $$ [HBH_dst0 HBH_src0 HBH_dst1 HBH_src1 HBH_dst2 HBH_src2 HBH_dst3 HBH_src3]
  · isplitl [HBH_dst0 HBH_src0]
    · isplitl [HBH_dst0]; · iexact HBH_dst0
      iexact HBH_src0
    isplitl [HBH_dst1 HBH_src1]
    · isplitl [HBH_dst1]; · iexact HBH_dst1
      iexact HBH_src1
    isplitl [HBH_dst2 HBH_src2]
    · isplitl [HBH_dst2]; · iexact HBH_dst2
      iexact HBH_src2
    isplitl [HBH_dst3]; · iexact HBH_dst3
    iexact HBH_src3
  ihave HO := (sent_joinO c A) $$ [HBO_dst0 HBO_src0 HBO_dst1 HBO_src1]
  · isplitl [HBO_dst0 HBO_src0]
    · isplitl [HBO_dst0]; · iexact HBO_dst0
      iexact HBO_src0
    isplitl [HBO_dst1]; · iexact HBO_dst1
    iexact HBO_src1
  icases HC with ⟨HC, HCs⟩
  icases HH with ⟨HH, HHs⟩
  icases HO with ⟨HO, HOs⟩
  icases HV with ⟨HV1, HV2, HV3, HV4, HV5⟩
  rw [wp_ret]; imodintro
  iapply Hk
  unfold postP workP semsP
  isplitl [HX]; · iexact HX
  isplitl [HWt]; · iexact HWt
  isplitl [HV1 HV2 HV3 HV4 HV5 HCs HHs HOs]
  · isplitl [HV1]; · iexact HV1
    isplitl [HV2]; · iexact HV2
    isplitl [HV3]; · iexact HV3
    isplitl [HV4]; · iexact HV4
    isplitl [HV5]; · iexact HV5
    unfold anyP
    isplitl [HHs]; · iexists (Gnh A); iexact HHs
    isplitl [HCs]; · iexists (Gnc A); iexact HCs
    iexists (Gout A); iexact HOs
  isplitl [HE HBC HBH HBO]
  · isplitl [HE]; · iexact HE
    isplitl [HBC]; · iexact HBC
    isplitl [HBH]; · iexact HBH
    iexact HBO
  isplitl [HC HH HO]
  · isplitl [HO]; · iexact HO
    isplitl [HH]; · iexact HH
    iexact HC
  unfold owesP
  iexists _; iexact HW

end Body

end Cert.Proof.KernelIdeal

end
-- ==== Proof.KernelIdealLaunch.lean ====
/-
  The launch: the region's proof data, the body's obligation, and the run of the whole program.
-/
module

public import proofs.«01_k».proof.Proof.KernelIdealBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffixV

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-- What the region finds: the blocks staged and the weights. -/
def argsOf (c : Dev nD) : Args F where
  xt := iblk m c 0 t0_0
  mf := iblk m c 1 t0_0
  h0 := iblk m c 2 t0_0
  c0 := iblk m c 3 t0_0
  bi := iblk m c 4 t0_0
  wi l := match l with | 0 => V m c main_arg4 | 1 => V m c main_arg8
  wh l := match l with | 0 => V m c main_arg5 | 1 => V m c main_arg9

/-- What the body leaves in the results it writes. -/
def GV (c : Dev nD) : (b : Ref sig .tc) → Buf (Elt F) ((c : Thread nD τ).loc b) :=
  Function.update (Function.update (Function.update (V m c) main_v10_0 (Gout (argsOf m c))) main_v10_1 (Gnh (argsOf m c))) main_v10_2 (Gnc (argsOf m c))
theorem GV_out (c : Dev nD) : GV m c main_v10_0 = Gout (argsOf m c) := by
  unfold GV; rw [Function.update_of_ne (by decide), Function.update_of_ne (by decide), Function.update_self]
theorem GV_nh (c : Dev nD) : GV m c main_v10_1 = Gnh (argsOf m c) := by
  unfold GV; rw [Function.update_of_ne (by decide), Function.update_self]
theorem GV_nc (c : Dev nD) : GV m c main_v10_2 = Gnc (argsOf m c) := by
  unfold GV; rw [Function.update_self]

/-- The kernel's own semaphores, the weights it reads and the results it writes. -/
abbrev osem0 : Fin 11 → SemLoc sig := fun j =>
  (![SemLoc.dma 5, SemLoc.dma 6, SemLoc.dma 7, SemLoc.dma 8, SemLoc.dma 9, SemLoc.dma 10, SemLoc.dma 11, SemLoc.dma 12, SemLoc.dma 13, SemLoc.dma 14, SemLoc.dma 15] : Fin 11 → SemLoc sig) j
theorem ownSemFacts0 : Pipeline.OwnSemFacts spec0 osem0 := by decide
def H0 : Finset (Ref sig .tc) := {main_arg4, main_arg5, main_arg8, main_arg9}
theorem H0_sub : H0 ⊆ Pipeline.restRefs sig spec0 := by decide
def R0 : Finset (Ref sig .tc) := {main_v10_0, main_v10_1, main_v10_2}
theorem R0_sub : R0 ⊆ Pipeline.restRefs sig spec0 \ H0 := by decide

section Parts
variable (c : Dev nD)

/-- A whole buffer, either way. -/
theorem whole_pts (b : Ref sig .tc) (f : Buf (Elt F) ((c : Thread nD τ).loc b)) :
    (((c : Thread nD τ).loc b) ↦{fullShare} f : sProp 𝕄) = (Memref.whole b).view.loc (c : Thread nD τ) ↦[(Memref.whole b).view.set]{fullShare} f := by
  simp only [View.set_whole, Memref.view_whole]

theorem rest_work : (Pipeline.scopedRest (Ix := Unit) (Name := ℕ) (U := Pipeline.UD sig nD τ) (Lvl := ℕ) (Val := Elt F) spec0 c : sProp 𝕄) = workP (F := F) c := by
  rw [scopedRest0_eq]; simp only [whole_pts]; rfl

theorem own_sems :
    (Pipeline.ownSems0 (Ix := Unit) (Name := ℕ) (U := Pipeline.UD sig nD τ) (Lvl := ℕ) (Val := Elt F) (τ := τ) osem0 c : sProp 𝕄)
      = iprop(cellP (F := F) c 0 0 ∗ cellP (F := F) c 0 1 ∗ cellP (F := F) c 1 0 ∗ cellP (F := F) c 1 1 ∗ cellP (F := F) c 2 0 ∗ cellP (F := F) c 2 1
        ∗ cellP (F := F) c 3 0 ∗ cellP (F := F) c 3 1 ∗ ocellP (F := F) c 0 ∗ ocellP (F := F) c 1 ∗ ocellP (F := F) c 2) := by
  rw [Pipeline.ownSems0_eq_of_list c osem0 [0, 1, 2, 3, 4, 5, 6, 7, 8, 9, 10] (by decide) (by decide)]; rfl
theorem sems_eq : (semsP (F := F) c : sProp 𝕄)
      = iprop(((cellP (F := F) c 0 0 ∗ cellP (F := F) c 0 1) ∗ (cellP (F := F) c 1 0 ∗ cellP (F := F) c 1 1) ∗ (cellP (F := F) c 2 0 ∗ cellP (F := F) c 2 1)
        ∗ (cellP (F := F) c 3 0 ∗ cellP (F := F) c 3 1)) ∗ ocellP (F := F) c 0 ∗ ocellP (F := F) c 1 ∗ ocellP (F := F) c 2) := by
  unfold semsP; rw [bigSep_fin4]

theorem kept_eq : (bigSep H0 (fun b => ((c : Thread nD τ).loc b) ↦{fullShare} V m c b) : sProp 𝕄)
    = iprop(allP c wih0 ((argsOf m c).wi 0) ∗ allP c whh0 ((argsOf m c).wh 0) ∗ allP c wih1 ((argsOf m c).wi 1) ∗ allP c whh1 ((argsOf m c).wh 1)) := by
  rw [BI.bigSep_eq_bigSepL_of_eq [main_arg4, main_arg5, main_arg8, main_arg9] (by decide) (by decide)]
  simp only [whole_pts]; rfl
theorem made_eq (G : (b : Ref sig .tc) → Buf (Elt F) ((c : Thread nD τ).loc b)) :
    (bigSep R0 (fun b => ((c : Thread nD τ).loc b) ↦{fullShare} G b) : sProp 𝕄)
    = iprop(allP c outM (G main_v10_0) ∗ allP c nhM (G main_v10_1) ∗ allP c ncM (G main_v10_2)) := by
  rw [BI.bigSep_eq_bigSepL_of_eq [main_v10_0, main_v10_1, main_v10_2] (by decide) (by decide)]
  simp only [whole_pts]; rfl

/-- What the region's launch hands the body, -/
theorem phi_in : Pipeline.ΦDRV osem0 spec0 H0 R0 (V m) (V m) c
    ⊢ iprop(weightsP c (argsOf m c) ∗ workP (F := F) c ∗ semsP (F := F) c ∗ (anyP (F := F) c outM ∗ anyP (F := F) c nhM ∗ anyP (F := F) c ncM)) := by
  unfold Pipeline.ΦDRV
  rw [rest_work, own_sems, kept_eq, made_eq, sems_eq]
  unfold weightsP anyP
  iintro ⟨HW, ⟨H0, H1, H2, H3, H4, H5, H6, H7, H8⟩, ⟨HA, HB, HC, HD⟩, ⟨HE, HF, HG⟩⟩
  isplitl [HA HB HC HD]
  · isplitl [HA HB]
    · isplitl [HA]; · iexact HA
      iexact HB
    isplitl [HC]; · iexact HC
    iexact HD
  isplitl [HW]; · iexact HW
  isplitl [H0 H1 H2 H3 H4 H5 H6 H7 H8]
  · isplitl [H0 H1 H2 H3 H4 H5 H6 H7]
    · isplitl [H0 H1]
      · isplitl [H0]; · iexact H0
        iexact H1
      isplitl [H2 H3]
      · isplitl [H2]; · iexact H2
        iexact H3
      isplitl [H4 H5]
      · isplitl [H4]; · iexact H4
        iexact H5
      isplitl [H6]; · iexact H6
      iexact H7
    iexact H8
  isplitl [HE]; · iexists _; iexact HE
  isplitl [HF]; · iexists _; iexact HF
  iexists _; iexact HG

/-- and what it takes back. -/
theorem phi_out : iprop(weightsP c (argsOf m c) ∗ workP (F := F) c ∗ semsP (F := F) c
      ∗ (allP c outM (Gout (argsOf m c)) ∗ allP c nhM (Gnh (argsOf m c)) ∗ allP c ncM (Gnc (argsOf m c))))
    ⊢ Pipeline.ΦDRV osem0 spec0 H0 R0 (V m) (GV m) c := by
  unfold Pipeline.ΦDRV
  rw [rest_work, own_sems, kept_eq, made_eq, sems_eq, GV_out, GV_nh, GV_nc]
  unfold weightsP
  iintro ⟨⟨⟨HA, HB⟩, HC, HD⟩, HW, ⟨⟨⟨H0, H1⟩, ⟨H2, H3⟩, ⟨H4, H5⟩, H6, H7⟩, H8⟩, HG⟩
  isplitl [HW]; · iexact HW
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HA HB HC HD]
  · isplitl [HA]; · iexact HA
    isplitl [HB]; · iexact HB
    isplitl [HC]; · iexact HC
    iexact HD
  iexact HG

end Parts

/-- The region's proof data: the arrays as found, each block left in place. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := if t.val = 0 then Pipeline.ΦDRV osem0 spec0 H0 R0 (V m) (V m) c else Pipeline.ΦDRV osem0 spec0 H0 R0 (V m) (GV m) c
  q _ := fullShare
  owed _ := 0

theorem A_eq (c : Dev nD) (w : Fin cfg0.W) : (dats m 0 c).A w = V m c (Pipeline.arrRef spec0 w) := by
  dsimp only [dats]
theorem after_eq (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t := by
  dsimp only [dats]; exact ⟨rfl, rfl, rfl, rfl, rfl⟩
theorem before_eq (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t) ∧ ∀ d, (dats m 0 c).before 4 t d = iblk m c 4 t := by
  refine ⟨?_, ?_, ?_, ?_, ?_⟩
  all_goals
    intro d
    refine ((dats m 0 c).before_in_eq_fetched _ rfl (fun _ => rfl) (fun _ _ _ => rfl) (fun t => ?_) t d).trans ?_
    · dsimp only [dats]; rfl
    · unfold Dat.fetched Dat.blockOf iblk; rw [A_eq]; try rfl
theorem phi_first (c : Dev nD) : (dats m 0 c).Φ 0 = Pipeline.ΦDRV osem0 spec0 H0 R0 (V m) (V m) c := by
  dsimp only [dats]; exact if_pos rfl
theorem phi_last (c : Dev nD) : (dats m 0 c).Φ (Fin.last cfg0.N) = Pipeline.ΦDRV osem0 spec0 H0 R0 (V m) (GV m) c := by
  dsimp only [dats]; exact if_neg (by decide)

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) 𝒱₀ c none) Set.univ (bodyAt0 t) (fun _ =>
      iprop((dats m 0 c).Φ t.succ ∗ (dats m 0 c).owesAt () t.succ
        ∗ owns (c : Thread nD τ) (st0_0 t) fullShare ((dats m 0 c).after 0 t) ∗ owns (c : Thread nD τ) (st0_1 t) fullShare ((dats m 0 c).after 1 t)
        ∗ owns (c : Thread nD τ) (st0_2 t) fullShare ((dats m 0 c).after 2 t) ∗ owns (c : Thread nD τ) (st0_3 t) fullShare ((dats m 0 c).after 3 t)
        ∗ owns (c : Thread nD τ) (st0_4 t) fullShare ((dats m 0 c).after 4 t))) := by
  obtain rfl := fin_N0 t
  obtain ⟨b0, b1, b2, b3, b4⟩ := before_eq m c t0_0
  obtain ⟨a0, a1, a2, a3, a4⟩ := after_eq m c t0_0
  rw [show (dats m 0 c).Φ t0_0.castSucc = Pipeline.ΦDRV osem0 spec0 H0 R0 (V m) (V m) c from phi_first m c,
    show (dats m 0 c).Φ t0_0.succ = Pipeline.ΦDRV osem0 spec0 H0 R0 (V m) (GV m) c from phi_last m c, a0, a1, a2, a3, a4]
  simp only [b0, b1, b2, b3, b4]
  unfold Dat.owesAt Pipeline.owesWithin owns
  rw [show (dats m 0 c).owed t0_0.castSucc = 0 from rfl, show (dats m 0 c).owed t0_0.succ = 0 from rfl]
  iintro ⟨HP, ⟨%W, -, HW⟩, ⟨%d0, %x0, %e0, H0⟩, ⟨%d1, %x1, %e1, H1⟩, ⟨%d2, %x2, %e2, H2⟩, ⟨%d3, %x3, %e3, H3⟩, ⟨%d4, %x4, %e4, H4⟩⟩
  have R : Reads (argsOf m c) (st0_0 t0_0) (st0_1 t0_0) (st0_2 t0_0) (st0_3 t0_0) (st0_4 t0_0) x0 x1 x2 x3 x4 := ⟨e0, e1, e2, e3, e4⟩
  ihave HP' := (phi_in m c) $$ HP
  icases HP' with ⟨HA, HB, HC, HD⟩
  iapply (bodyRun c (argsOf m c) (st0_0 t0_0) (hstage0_0 0) (st0_1 t0_0) (hstage0_1 0) (st0_2 t0_0) (hstage0_2 0) (st0_3 t0_0) (hstage0_3 0) (st0_4 t0_0) (hstage0_4 0) x0 x1 x2 x3 x4 R)
  isplitl [HA HB HC HD HW H0 H1 H2 H3 H4]
  · unfold preP
    isplitl [H0 H1 H2 H3 H4]
    · isplitl [H0]; · iexact H0
      isplitl [H1]; · iexact H1
      isplitl [H2]; · iexact H2
      isplitl [H3]; · iexact H3
      iexact H4
    isplitl [HA]; · iexact HA
    isplitl [HB]; · iexact HB
    isplitl [HC]; · iexact HC
    isplitl [HD]; · iexact HD
    unfold owesP; iexists W; iexact HW
  unfold postP owesP
  iintro ⟨⟨H0, H1, H2, H3, H4⟩, HA, HB, HC, HD, ⟨%W', HW'⟩⟩
  isplitl [HA HB HC HD]
  · iapply (phi_out m c)
    isplitl [HA]; · iexact HA
    isplitl [HB]; · iexact HB
    isplitl [HC]; · iexact HC
    iexact HD
  isplitl [HW']
  · iexists W'; isplitr; · ipureintro; exact fun _ _ => Or.inl trivial
    iexact HW'
  isplitl [H0]; · iexists x0; isplitr; · ipureintro; exact e0
                  iexact H0
  isplitl [H1]; · iexists x1; isplitr; · ipureintro; exact e1
                  iexact H1
  isplitl [H2]; · iexists x2; isplitr; · ipureintro; exact e2
                  iexact H2
  isplitl [H3]; · iexists x3; isplitr; · ipureintro; exact e3
                  iexact H3
  iexists x4; isplitr; · ipureintro; exact e4
  iexact H4

theorem defs₀_row (t : Fin cfg0.N) : defs₀ (F := F) .tc cfg0.body (cfg0.bodyArgs t (cfg0.slots t)) = bodyAt0 t := by
  unfold defs₀; rw [Defs.onTc_tc]

set_option backward.isDefEq.respectTransparency.types false in
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option maxHeartbeats 800000 in
theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The valuation the last host operation meets. -/
abbrev VL (c : Dev nD) : Valuation τ sig (Elt F) :=
  Pipeline.withArrays spec0 c (Pipeline.withR (V0 m c) R0 c (GV m c)) fun w => (dats m 0 c).arrAt w cfg0.N

set_option backward.isDefEq.respectTransparency.types false in
/-- The run: every buffer as the region and the host operations after it leave it, every semaphore back at zero. -/
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (VL m c) (Proc.devRef .tc b))
    ∧ r.2.sem = fun _ => 0) :=
  Pipeline.θ_run_frame_dmaR_aroundV (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := GV m) (hmain := hmainD m) (hA := A_eq m)
    (hin := fun c => Entails.of_eq (phi_first m c).symm) (hout := fun c => Entails.of_eq (phi_last m c)) (hQ' := fun _ h => h)

end Cert.Proof.KernelIdeal

end
-- ==== Proof.KernelIdealFrame.lean ====
/-
  The frame: the arguments end as launched, every semaphore back at zero.
-/
module

public import proofs.«01_k».proof.Proof.KernelIdealLaunch

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A buffer that no later host operation writes, no window stages and the kernel does not write ends as the region found it. -/
theorem after_untouched (c : Dev nD) (b : Ref sig .tc) (h1 : b ≠ main_v11) (h2 : ∀ w, Pipeline.arrRef spec0 w ≠ b) (h3 : b ∉ R0) :
    StableHlo.after (List.flatten [hostOps1]) (VL m c) (Proc.devRef .tc b) = V m c b := by
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.unary_writes, Finset.mem_singleton]
      exact StableHlo.devRef_ne_of_ne h1))]
  unfold VL
  rw [Pipeline.withArrays_of_ne _ c _ _ b h2, Pipeline.withR_of_not_mem _ _ c _ b h3]

/-- Core `c`'s arguments hold in `μ` what they held at launch. -/
def ArgsKept (μ : (ℓ : Loc nD τ sig) → Buf (Elt F) ℓ) (c : Dev nD) : Prop :=
  μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8)
      ∧ μ ((c.tc : Thread nD τ).loc main_arg9) = m ((c.tc : Thread nD τ).loc main_arg9)
      ∧ μ ((c.tc : Thread nD τ).loc main_arg10) = m ((c.tc : Thread nD τ).loc main_arg10)
      ∧ μ ((c.tc : Thread nD τ).loc main_arg11) = m ((c.tc : Thread nD τ).loc main_arg11)

/-- The run, its arguments kept: what every buffer no window stages ends with, the arguments, the semaphores. -/
theorem run_kept : θ_run defs (onTc (τ := τ) (main (F := F))) ⟨m, fun _ => 0, ρ⟩ (fun r =>
      (∀ c : Dev nD, ∀ b ∈ Pipeline.restRefs sig spec0,
        r.2.mem ((c.tc : Thread nD τ).loc b) = StableHlo.after (List.flatten [hostOps1]) (VL m c) (Proc.devRef .tc b))
      ∧ (∀ c : Dev nD, ArgsKept m r.2.mem c) ∧ r.2.sem = fun _ => 0) :=
  (θ_run _ _ _).mono (fun r h => ⟨fun c => (h.1 c).2, fun c => by
    have hb := (h.1 c).2
    have ha := (h.1 c).1
    refine ⟨?_, ?_, ?_, ?_, ?_, ?_, ?_, ?_, ?_, ?_, ?_, ?_⟩
    · exact (hb main_arg0 (Pipeline.mem_restRefs_of main_arg0 (by decide) (by decide))).trans
        ((after_untouched m c main_arg0 (by decide) (by decide) (by decide)).trans (V_main_arg0 m c))
    · exact (hb main_arg1 (Pipeline.mem_restRefs_of main_arg1 (by decide) (by decide))).trans
        ((after_untouched m c main_arg1 (by decide) (by decide) (by decide)).trans (V_main_arg1 m c))
    · exact (ha 2).trans (((dats m 0 c).arrAt_in 2 rfl _).trans ((A_eq m c 2).trans (V_main_arg2 m c)))
    · exact (ha 3).trans (((dats m 0 c).arrAt_in 3 rfl _).trans ((A_eq m c 3).trans (V_main_arg3 m c)))
    · exact (hb main_arg4 (Pipeline.mem_restRefs_of main_arg4 (by decide) (by decide))).trans
        ((after_untouched m c main_arg4 (by decide) (by decide) (by decide)).trans (V_main_arg4 m c))
    · exact (hb main_arg5 (Pipeline.mem_restRefs_of main_arg5 (by decide) (by decide))).trans
        ((after_untouched m c main_arg5 (by decide) (by decide) (by decide)).trans (V_main_arg5 m c))
    · exact (hb main_arg6 (Pipeline.mem_restRefs_of main_arg6 (by decide) (by decide))).trans
        ((after_untouched m c main_arg6 (by decide) (by decide) (by decide)).trans (V_main_arg6 m c))
    · exact (hb main_arg7 (Pipeline.mem_restRefs_of main_arg7 (by decide) (by decide))).trans
        ((after_untouched m c main_arg7 (by decide) (by decide) (by decide)).trans (V_main_arg7 m c))
    · exact (hb main_arg8 (Pipeline.mem_restRefs_of main_arg8 (by decide) (by decide))).trans
        ((after_untouched m c main_arg8 (by decide) (by decide) (by decide)).trans (V_main_arg8 m c))
    · exact (hb main_arg9 (Pipeline.mem_restRefs_of main_arg9 (by decide) (by decide))).trans
        ((after_untouched m c main_arg9 (by decide) (by decide) (by decide)).trans (V_main_arg9 m c))
    · exact (hb main_arg10 (Pipeline.mem_restRefs_of main_arg10 (by decide) (by decide))).trans
        ((after_untouched m c main_arg10 (by decide) (by decide) (by decide)).trans (V_main_arg10 m c))
    · exact (hb main_arg11 (Pipeline.mem_restRefs_of main_arg11 (by decide) (by decide))).trans
        ((after_untouched m c main_arg11 (by decide) (by decide) (by decide)).trans (V_main_arg11 m c)), h.2⟩) (run_main m ρ)

/-- THE FRAME at any float operations. -/
theorem frame_main : θ_run defs (onTc (τ := τ) (main (F := F))) ⟨m, fun _ => 0, ρ⟩ (fun r =>
      (∀ c : Dev nD, ArgsKept m r.2.mem c) ∧ r.2.sem = fun _ => 0) :=
  (θ_run _ _ _).mono (fun _ h => h.2) (run_kept m ρ)

end Cert.Proof.KernelIdeal

end
-- ==== Proof.KernelFrame.lean ====
/-
  The frame of the program that is not idealised. No operation is rewritten, so it is the ideal program's text again: the two
  are one program at any float operations, and the run proved of the one is the run of the other.
-/
module

public import proofs.«01_k».proof.Defs
public import proofs.«01_k».proof.Proof.Gen.Kernel
public import proofs.«01_k».proof.Proof.KernelIdealFrame

@[expose] public section

set_option maxRecDepth 16384

noncomputable section

namespace Cert.Proof.Kernel

open Idealize.ShloMosaic Idealize.ShloMosaic.TcCoe Idealize.SL.Sem

variable {F : FTy → Type} [FloatOps F]

/-- The host's lines around the region are the same, -/
theorem main_same : @Cert.Kernel.main F _ Cert.Kernel.Gen.facts = @Cert.KernelIdeal.main F _ Cert.KernelIdeal.Gen.facts := rfl

/-- the body is the same, at the one label there is, -/
theorem bodies_same : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  obtain ⟨l, hl⟩ := l
  cases l with
  | zero => obtain ⟨t, s⟩ := a; rfl
  | succ n => exact absurd hl (by omega)

/-- and so is the table with the pipeline's own labels. -/
theorem defs_same : @Cert.Kernel.defs F _ Cert.Kernel.Gen.facts = @Cert.KernelIdeal.defs F _ Cert.KernelIdeal.Gen.facts :=
  congrArg (Pipeline.defs (Cert.Kernel.pcfgs (F := F))) bodies_same

/-- THE FRAME of the program on float words. -/
theorem frame_words : Cert.quiescent_Kernel (hKernel := Cert.Kernel.Gen.facts) := fun m ρ _ => by
  rw [main_same, defs_same]
  exact Cert.Proof.KernelIdeal.frame_main (F := Bits) m ρ

end Cert.Proof.Kernel

end
-- ==== Proof.KernelIdealValue.lean ====
/-
  What the kernel's results are at an index, over the extended reals.
-/
module

public import proofs.«01_k».proof.Proof.KernelIdealModel
public import Idealize.ShloMosaic.Lib.Pointwise
public import Idealize.ShloMosaic.Lib.IdealHost

@[expose] public section

set_option maxRecDepth 16384

noncomputable section

namespace Cert.Proof.KernelIdeal

open Cert.KernelIdeal Cert.KernelIdeal.Gen
open Idealize.ShloMosaic Idealize.ShloMosaic.TcCoe

/-! ## The blocks the kernel loads, at an index -/

theorem ld_layer (X : Vec Ideal S2x128x1024 .f32) (l : Fin 2) (r : Fin 128) (k : Fin 1024) :
    View.ld (Val := Elt Ideal) (e' := .f32) X (rL l) (ix3 0 r k) = X (ix3 l r k) := by
  pointwise
theorem sB_div : ∀ l s : Fin 2, (sB l s).val / 2 = l.val := by decide
theorem sB_mod : ∀ l s : Fin 2, (sB l s).val % 2 = s.val := by decide
theorem gB_val : ∀ (q : Fin 4) (s : Fin 2), (gB q.val s).val = 2 * q.val + s.val := by decide
theorem ld_state (X : Vec Ideal S2x128x1024 .f32) (l s : Fin 2) (r : Fin 128) (j : Fin 512) :
    View.ld (Val := Elt Ideal) (e' := .f32) X (rH (sB l s)) (ix3 0 r j) = X (ix3 l r ⟨512 * s.val + j.val, by omega⟩) := by
  pointwise
  simp only [sB_div, sB_mod, Fin.eta]
theorem ld_bias (X : Vec Ideal S2x4096 .f32) (l : Fin 2) (b : Fin 8) (j : Fin 512) :
    View.ld (Val := Elt Ideal) (e' := .f32) X (rB l b) (ix2 0 j) = X (ix2 l ⟨512 * b.val + j.val, by omega⟩) := by
  pointwise
theorem wv_apply (W : Vec Ideal S4096x1024 .f32) (b : Fin 8) (j : Fin 512) (k : Fin 1024) :
    wv W b (ix4 0 0 j k) = W (ix2 ⟨512 * b.val + j.val, by omega⟩ k) := by
  unfold wv
  pointwise

/-! ## The gates of a block -/

theorem pick_layer {s : Shape} (l : Fin 2) (u v : FVec Ideal s .f32) :
    Scalar.select (Scalar.cmpi .eq (lw l) 0#32) u v = if l = 0 then u else v := by
  fin_cases l <;> rfl

variable (A : Args Ideal)

/-- A gate before its squashing: row `n` of the weights of layer `l` against row `r` of what the layer reads. -/
def preK (x : Vec Ideal S128x1024 .f32) (l : Fin 2) (r : Fin 128) (n : Fin 4096) : EReal :=
  ((∑ k : Fin 1024, A.wi l (ix2 n k) * x (ix2 r k)) + ∑ k : Fin 1024, A.wh l (ix2 n k) * A.h0 (ix3 l r k)) + A.bi (ix2 l n)

theorem pay1_apply (l : Fin 2) (u : Vec Ideal S1x128x1024 .f32) (x h : Vec Ideal S128x1024 .f32) (wi wh : Vec Ideal S1x1x512x1024 .f32)
    (r : Fin 128) (j : Fin 512) : k0_pay1 (lw l) u x h wi wh (ix2 r j)
      = (∑ k : Fin 1024, wi (ix4 0 0 j k) * (if l = 0 then x else h) (ix2 r k)) + ∑ k : Fin 1024, wh (ix4 0 0 j k) * u (ix3 0 r k) := by
  unfold k0_pay1
  rw [pick_layer]
  split <;> pointwise

theorem pay2_apply (g : FVec Ideal S128x512 .f32) (b : Vec Ideal S1x512 .f32) (r : Fin 128) (j : Fin 512) :
    k0_pay2 g b (ix2 r j) = g (ix2 r j) + b (ix2 0 j) := by
  pointwise [k0_pay2]

/-- The gates of a block of rows are the gates of those rows. -/
theorem gate_apply (h : Vec Ideal S128x1024 .f32) (l : Fin 2) (hl : l = 0 → h = A.xt) (q : Fin 4) (s : Fin 2) (r : Fin 128) (j : Fin 512) :
    k0_pay2 (mm A h l (gB q.val s)) (bv A l (gB q.val s)) (ix2 r j) = preK A h l r ⟨1024 * q.val + (512 * s.val + j.val), by omega⟩ := by
  have e : (⟨512 * (gB q.val s).val + j.val, by omega⟩ : Fin 4096) = ⟨1024 * q.val + (512 * s.val + j.val), by omega⟩ :=
    Fin.ext (by simp only [gB_val]; omega)
  have hx : (if l = 0 then A.xt else h) = h := by split; · next hz => exact (hl hz).symm
                                                  · rfl
  unfold mm bv preK
  rw [pay2_apply, pay1_apply, hx, ld_bias, e]
  simp only [wv_apply, e]
  exact congrArg (fun z => _ + z + _) (Finset.sum_congr rfl fun k _ => congrArg (_ * ·) (ld_layer A.h0 l r k))

/-! ## The cell and the hidden state -/

/-- The new cell and the new hidden state of row `r`, column `n` of layer `l`. -/
def cellK (x : Vec Ideal S128x1024 .f32) (l : Fin 2) (r : Fin 128) (n : Fin 1024) : EReal :=
  Ideal.logistic (preK A x l r ⟨1024 + n.val, by omega⟩) * A.c0 (ix3 l r n)
    + Ideal.logistic (preK A x l r ⟨n.val, by omega⟩) * Ideal.tanh (preK A x l r ⟨2048 + n.val, by omega⟩)
def hidK (x : Vec Ideal S128x1024 .f32) (l : Fin 2) (r : Fin 128) (n : Fin 1024) : EReal :=
  Ideal.logistic (preK A x l r ⟨3072 + n.val, by omega⟩) * Ideal.tanh (cellK A x l r n)
/-- The mask's bit of row `r`. -/
def bitK (r : Fin 128) : BitVec 1 := Ideal.cmp .ogt (A.mf (ix2 r 0)) 0

theorem pay3_apply (v : Vec Ideal S128x1 .f32) (r : Fin 128) : k0_pay3 v (ix2 r 0) = Ideal.cmp .ogt (v (ix2 r 0)) 0 := by
  pointwise [k0_pay3]
theorem pay4_apply (g : FVec Ideal S128x512 .f32) (b : Vec Ideal S1x512 .f32) (r : Fin 128) (j : Fin 512) :
    k0_pay4 g b (ix2 r j) = Ideal.logistic (k0_pay2 g b (ix2 r j)) := by
  pointwise [k0_pay4]
theorem pay5_apply (g : FVec Ideal S128x512 .f32) (b : Vec Ideal S1x512 .f32) (r : Fin 128) (j : Fin 512) :
    k0_pay5 g b (ix2 r j) = Ideal.logistic (k0_pay2 g b (ix2 r j)) := by
  pointwise [k0_pay5]
theorem pay6_apply (g : FVec Ideal S128x512 .f32) (b : Vec Ideal S1x512 .f32) (f i : Vec Ideal S128x512 .f32) (c : Vec Ideal S1x128x512 .f32)
    (r : Fin 128) (j : Fin 512) : k0_pay6 g b f c i (ix2 r j)
      = f (ix2 r j) * c (ix3 0 r j) + i (ix2 r j) * Ideal.tanh (k0_pay2 g b (ix2 r j)) := by
  pointwise [k0_pay6]
theorem pay7_apply (g : FVec Ideal S128x512 .f32) (b : Vec Ideal S1x512 .f32) (f i : Vec Ideal S128x512 .f32) (c : Vec Ideal S1x128x512 .f32)
    (r : Fin 128) (j : Fin 512) : k0_pay7 g b f c i (ix2 r j) = Ideal.tanh (k0_pay6 g b f c i (ix2 r j)) := by
  pointwise [k0_pay7]
theorem pay9_apply (g : FVec Ideal S128x512 .f32) (b : Vec Ideal S1x512 .f32) (t : Vec Ideal S128x512 .f32)
    (r : Fin 128) (j : Fin 512) : k0_pay9 g b t (ix2 r j) = Ideal.logistic (k0_pay2 g b (ix2 r j)) * t (ix2 r j) := by
  pointwise [k0_pay9]
theorem pay8_apply (g : FVec Ideal S128x512 .f32) (b : Vec Ideal S1x512 .f32) (mf : Vec Ideal S128x1 .f32) (f i : Vec Ideal S128x512 .f32) (c d : Vec Ideal S1x128x512 .f32)
    (r : Fin 128) (j : Fin 512) : k0_pay8 g b mf f c i d (ix3 0 r j)
      = Scalar.select (k0_pay3 mf (ix2 r 0)) (k0_pay6 g b f c i (ix2 r j)) (d (ix3 0 r j)) := by
  pointwise [k0_pay8]
theorem pay10_apply (g : FVec Ideal S128x512 .f32) (b : Vec Ideal S1x512 .f32) (mf : Vec Ideal S128x1 .f32) (t : Vec Ideal S128x512 .f32) (d : Vec Ideal S1x128x512 .f32)
    (r : Fin 128) (j : Fin 512) : k0_pay10 g b mf t d (ix3 0 r j)
      = Scalar.select (k0_pay3 mf (ix2 r 0)) (k0_pay9 g b t (ix2 r j)) (d (ix3 0 r j)) := by
  pointwise [k0_pay10]
theorem pay11_apply (g : FVec Ideal S128x512 .f32) (b : Vec Ideal S1x512 .f32) (t : Vec Ideal S128x512 .f32)
    (r : Fin 128) (j : Fin 512) : k0_pay11 g b t (ix2 r j) = k0_pay9 g b t (ix2 r j) := by
  pointwise [k0_pay11]
theorem pay12_apply (g : FVec Ideal S128x512 .f32) (b : Vec Ideal S1x512 .f32) (mf : Vec Ideal S128x1 .f32) (t : Vec Ideal S128x512 .f32)
    (r : Fin 128) (j : Fin 512) : k0_pay12 g b mf t (ix2 r j)
      = Scalar.select (k0_pay3 mf (ix2 r 0)) (k0_pay9 g b t (ix2 r j)) 0 := by
  pointwise [k0_pay12]

/-! ## The stored halves -/

/-- Column `j` of half `s`. -/
abbrev colK (s : Fin 2) (j : Fin 512) : Fin 1024 := ⟨512 * s.val + j.val, by omega⟩

section
variable (h : Vec Ideal S128x1024 .f32) (l : Fin 2) (hl : l = 0 → h = A.xt) (s : Fin 2) (r : Fin 128) (j : Fin 512)
include hl

theorem gate_at (q : Fin 4) (n : Fin 4096) (hn : n.val = 1024 * q.val + (512 * s.val + j.val)) :
    k0_pay2 (mm A h l (gB q.val s)) (bv A l (gB q.val s)) (ix2 r j) = preK A h l r n :=
  (gate_apply A h l hl q s r j).trans (congrArg (preK A h l r) (Fin.ext hn.symm))

theorem cell_apply : k0_pay6 (mm A h l (gB 2 s)) (bv A l (gB 2 s)) (fgv A h l s) (c0v A (sB l s)) (igv A h l s) (ix2 r j)
    = cellK A h l r (colK s j) := by
  have h0 : k0_pay2 (mm A h l (gB 0 s)) (bv A l (gB 0 s)) (ix2 r j) = preK A h l r ⟨(colK s j).val, by omega⟩ :=
    gate_at A h l hl s r j 0 _ (by simp)
  have h1 : k0_pay2 (mm A h l (gB 1 s)) (bv A l (gB 1 s)) (ix2 r j) = preK A h l r ⟨1024 + (colK s j).val, by omega⟩ :=
    gate_at A h l hl s r j 1 _ rfl
  have h2 : k0_pay2 (mm A h l (gB 2 s)) (bv A l (gB 2 s)) (ix2 r j) = preK A h l r ⟨2048 + (colK s j).val, by omega⟩ :=
    gate_at A h l hl s r j 2 _ rfl
  have hc : c0v A (sB l s) (ix3 0 r j) = A.c0 (ix3 l r (colK s j)) := ld_state A.c0 l s r j
  have hi : igv A h l s (ix2 r j) = Ideal.logistic (preK A h l r ⟨(colK s j).val, by omega⟩) := (pay4_apply _ _ r j).trans (congrArg _ h0)
  have hf : fgv A h l s (ix2 r j) = Ideal.logistic (preK A h l r ⟨1024 + (colK s j).val, by omega⟩) := (pay5_apply _ _ r j).trans (congrArg _ h1)
  rw [pay6_apply, hc, hi, hf, h2]
  rfl

theorem hid_apply : k0_pay9 (mm A h l (gB 3 s)) (bv A l (gB 3 s)) (tcv A h l s) (ix2 r j) = hidK A h l r (colK s j) := by
  have h3 : k0_pay2 (mm A h l (gB 3 s)) (bv A l (gB 3 s)) (ix2 r j) = preK A h l r ⟨3072 + (colK s j).val, by omega⟩ :=
    gate_at A h l hl s r j 3 _ rfl
  have ht : tcv A h l s (ix2 r j) = Ideal.tanh (cellK A h l r (colK s j)) :=
    (pay7_apply _ _ _ _ _ r j).trans (congrArg _ (cell_apply A h l hl s r j))
  rw [pay9_apply, h3, ht]
  rfl

theorem hnv_apply : hnv A h l s (ix2 r j) = hidK A h l r (colK s j) :=
  (pay11_apply _ _ _ r j).trans (hid_apply A h l hl s r j)
theorem outv_apply : outv A h l s (ix2 r j) = Scalar.select (bitK A r) (hidK A h l r (colK s j)) 0 := by
  have e := pay12_apply (mm A h l (gB 3 s)) (bv A l (gB 3 s)) A.mf (tcv A h l s) r j
  rw [hid_apply A h l hl s r j, pay3_apply] at e
  exact e
theorem nhv_apply : nhv A h l s (ix3 0 r j) = Scalar.select (bitK A r) (hidK A h l r (colK s j)) (A.h0 (ix3 l r (colK s j))) := by
  have e := pay10_apply (mm A h l (gB 3 s)) (bv A l (gB 3 s)) A.mf (tcv A h l s) (h0v A (sB l s)) r j
  rw [hid_apply A h l hl s r j, pay3_apply] at e
  exact e.trans (congrArg _ (ld_state A.h0 l s r j))
theorem ncv_apply : ncv A h l s (ix3 0 r j) = Scalar.select (bitK A r) (cellK A h l r (colK s j)) (A.c0 (ix3 l r (colK s j))) := by
  have e := pay8_apply (mm A h l (gB 2 s)) (bv A l (gB 2 s)) A.mf (fgv A h l s) (igv A h l s) (c0v A (sB l s)) (c0v A (sB l s)) r j
  rw [cell_apply A h l hl s r j, pay3_apply] at e
  exact e.trans (congrArg _ (ld_state A.c0 l s r j))
end

/-! ## The results -/

theorem col_split (n : Fin 1024) : colK (Fin.ofNat 2 (n.val / 512)) (Fin.ofNat 512 (n.val % 512)) = n :=
  Fin.ext (by simp only [Fin.val_ofNat]; omega)

theorem h1v_apply (r : Fin 128) (n : Fin 1024) : h1v A (ix2 r n) = hidK A A.xt 0 r n :=
  (hnv_apply A A.xt 0 (fun _ => rfl) (Fin.ofNat 2 (n.val / 512)) r (Fin.ofNat 512 (n.val % 512))).trans (congrArg _ (col_split n))
theorem Gout_apply (r : Fin 128) (n : Fin 1024) : Gout A (ix2 r n) = Scalar.select (bitK A r) (hidK A (h1v A) 1 r n) 0 := by
  have e := outv_apply A (h1v A) 1 (fun h => absurd h (by decide)) (Fin.ofNat 2 (n.val / 512)) r (Fin.ofNat 512 (n.val % 512))
  rw [col_split] at e
  exact e
theorem hin_zero (l : Fin 2) (h : l = 0) : hin A l = A.xt := if_pos h
theorem Gnh_apply (l : Fin 2) (r : Fin 128) (n : Fin 1024) :
    Gnh A (ix3 l r n) = Scalar.select (bitK A r) (hidK A (hin A l) l r n) (A.h0 (ix3 l r n)) := by
  have e := nhv_apply A (hin A l) l (hin_zero A l) (Fin.ofNat 2 (n.val / 512)) r (Fin.ofNat 512 (n.val % 512))
  rw [col_split] at e
  exact e
theorem Gnc_apply (l : Fin 2) (r : Fin 128) (n : Fin 1024) :
    Gnc A (ix3 l r n) = Scalar.select (bitK A r) (cellK A (hin A l) l r n) (A.c0 (ix3 l r n)) := by
  have e := ncv_apply A (hin A l) l (hin_zero A l) (Fin.ofNat 2 (n.val / 512)) r (Fin.ofNat 512 (n.val % 512))
  rw [col_split] at e
  exact e

end Cert.Proof.KernelIdeal

end
-- ==== Proof.KernelIdealArgs.lean ====
/-
  What the region finds, as the arguments of the program.
-/
module

public import proofs.«01_k».proof.Proof.KernelIdealLaunch
public import proofs.«01_k».proof.Proof.KernelIdealValue
public import Idealize.ShloMosaic.Lib.Pipeline.ValueKit
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe

variable (m : (ℓ : Loc nD τ sig) → Buf (Elt Ideal) ℓ) (c : Dev nD)

/-! ## Each window's block is its whole array -/

theorem idx0 : win0_0.index t0_0 0 = 0 ∧ win0_0.index t0_0 1 = 0 := by decide
theorem idx1 : win0_1.index t0_0 0 = 0 ∧ win0_1.index t0_0 1 = 0 := by decide
theorem idx2 : win0_2.index t0_0 0 = 0 ∧ win0_2.index t0_0 1 = 0 ∧ win0_2.index t0_0 2 = 0 := by decide
theorem idx3 : win0_3.index t0_0 0 = 0 ∧ win0_3.index t0_0 1 = 0 ∧ win0_3.index t0_0 2 = 0 := by decide
theorem idx4 : win0_4.index t0_0 0 = 0 ∧ win0_4.index t0_0 1 = 0 := by decide

theorem blk_xt (r : Fin 128) (n : Fin 1024) : iblk m c 0 t0_0 (ix2 r n) = V m c main_v0 (ix2 r n) := by
  blk_ext [iblk, idx0]
theorem blk_mf (r : Fin 128) : iblk m c 1 t0_0 (ix2 r 0) = V m c main_v9 (ix2 r 0) := by
  blk_ext [iblk, idx1]
theorem blk_h0 (l : Fin 2) (r : Fin 128) (n : Fin 1024) : iblk m c 2 t0_0 (ix3 l r n) = V m c main_arg2 (ix3 l r n) := by
  blk_ext [iblk, idx2]
theorem blk_c0 (l : Fin 2) (r : Fin 128) (n : Fin 1024) : iblk m c 3 t0_0 (ix3 l r n) = V m c main_arg3 (ix3 l r n) := by
  blk_ext [iblk, idx3]
theorem blk_bi (l : Fin 2) (n : Fin 4096) : iblk m c 4 t0_0 (ix2 l n) = V m c main_v5 (ix2 l n) := by
  blk_ext [iblk, idx4]

/-! ## The arrays the host prepares -/

/-- The arguments by name. -/
abbrev aXt : FVec Ideal S128x1x1024 .f32 := m ((c.tc : Thread nD τ).loc main_arg0)
abbrev aMask : IVec S128 32 := m ((c.tc : Thread nD τ).loc main_arg1)
abbrev aH : FVec Ideal S2x128x1024 .f32 := m ((c.tc : Thread nD τ).loc main_arg2)
abbrev aC : FVec Ideal S2x128x1024 .f32 := m ((c.tc : Thread nD τ).loc main_arg3)
abbrev aB (l : Fin 2) : FVec Ideal S4096 .f32 := match l with
  | 0 => m ((c.tc : Thread nD τ).loc main_arg6)
  | 1 => m ((c.tc : Thread nD τ).loc main_arg10)
abbrev aB' (l : Fin 2) : FVec Ideal S4096 .f32 := match l with
  | 0 => m ((c.tc : Thread nD τ).loc main_arg7)
  | 1 => m ((c.tc : Thread nD τ).loc main_arg11)

theorem V_xt (r : Fin 128) (n : Fin 1024) : V m c main_v0 (ix2 r n) = aXt m c (ix3 r 0 n) := by
  simp only [V, V0, List.flatten_cons, List.flatten_nil, List.append_nil]
  entry_read
  pointwise
theorem V_bi0 (n : Fin 4096) : V m c main_v5 (ix2 0 n) = aB m c 0 (ix1 n) + aB' m c 0 (ix1 n) := by
  simp only [V, V0, List.flatten_cons, List.flatten_nil, List.append_nil]
  entry_read
  pointwise
theorem V_bi1 (n : Fin 4096) : V m c main_v5 (ix2 1 n) = aB m c 1 (ix1 n) + aB' m c 1 (ix1 n) := by
  simp only [V, V0, List.flatten_cons, List.flatten_nil, List.append_nil]
  entry_read
  pointwise
theorem V_mf (r : Fin 128) : V m c main_v9 (ix2 r 0) = FloatOps.uitofp (F := Ideal) .f32 (IntOp.cmpi .sgt (aMask m c (ix1 r)) 0#32) := by
  simp only [V, V0, List.flatten_cons, List.flatten_nil, List.append_nil]
  entry_read
  pointwise

theorem bit_pos (b : BitVec 1) : Ideal.cmp .ogt (FloatOps.uitofp (F := Ideal) .f32 b) 0 = b := by
  have h : b = 0#1 ∨ b = 1#1 := by revert b; decide
  rcases h with rfl | rfl
  · rw [Ideal.cmp_ogt]; simp [FloatOps.uitofp]
  · rw [Ideal.cmp_ogt]; simp [FloatOps.uitofp]

/-! ## What the region finds, of the arguments -/

theorem args_xt (r : Fin 128) (n : Fin 1024) : (argsOf m c).xt (ix2 r n) = aXt m c (ix3 r 0 n) :=
  (blk_xt m c r n).trans (V_xt m c r n)
theorem args_h0 (l : Fin 2) (r : Fin 128) (n : Fin 1024) : (argsOf m c).h0 (ix3 l r n) = aH m c (ix3 l r n) :=
  (blk_h0 m c l r n).trans (congrFun (V_main_arg2 m c) _)
theorem args_c0 (l : Fin 2) (r : Fin 128) (n : Fin 1024) : (argsOf m c).c0 (ix3 l r n) = aC m c (ix3 l r n) :=
  (blk_c0 m c l r n).trans (congrFun (V_main_arg3 m c) _)
theorem args_bi (l : Fin 2) (n : Fin 4096) : (argsOf m c).bi (ix2 l n) = aB m c l (ix1 n) + aB' m c l (ix1 n) := by
  have h : l = 0 ∨ l = 1 := by omega
  rcases h with rfl | rfl
  · exact (blk_bi m c 0 n).trans (V_bi0 m c n)
  · exact (blk_bi m c 1 n).trans (V_bi1 m c n)
theorem args_bit (r : Fin 128) : bitK (argsOf m c) r = IntOp.cmpi .sgt (aMask m c (ix1 r)) 0#32 :=
  (congrArg (fun z => Ideal.cmp .ogt z 0) ((blk_mf m c r).trans (V_mf m c r))).trans (bit_pos _)
theorem args_wi0 : (argsOf m c).wi 0 = m ((c.tc : Thread nD τ).loc main_arg4) := V_main_arg4 m c
theorem args_wi1 : (argsOf m c).wi 1 = m ((c.tc : Thread nD τ).loc main_arg8) := V_main_arg8 m c
theorem args_wh0 : (argsOf m c).wh 0 = m ((c.tc : Thread nD τ).loc main_arg5) := V_main_arg5 m c
theorem args_wh1 : (argsOf m c).wh 1 = m ((c.tc : Thread nD τ).loc main_arg9) := V_main_arg9 m c

end Cert.Proof.KernelIdeal

end
-- ==== Proof.KernelIdealResults.lean ====
/-
  The results of the run: what the host returns of what the body wrote, beside the frame.
-/
module

public import proofs.«01_k».proof.Proof.KernelIdealFrame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- A result the kernel wrote, as the later host line finds it. -/
theorem made_at (c : Dev nD) (b : Ref sig .tc) (h2 : ∀ w, Pipeline.arrRef spec0 w ≠ b) (h3 : b ∈ R0) :
    VL m c (Proc.devRef .tc b) = GV m c b := by
  unfold VL
  rw [Pipeline.withArrays_of_ne _ c _ _ b h2, Pipeline.withR_of_mem _ _ c _ b h3]

/-- A result the later host line leaves alone. -/
theorem after_made (c : Dev nD) (b : Ref sig .tc) (h1 : b ≠ main_v11) (h2 : ∀ w, Pipeline.arrRef spec0 w ≠ b) (h3 : b ∈ R0) :
    StableHlo.after (List.flatten [hostOps1]) (VL m c) (Proc.devRef .tc b) = GV m c b := by
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.unary_writes, Finset.mem_singleton]
      exact StableHlo.devRef_ne_of_ne h1))]
  exact made_at m c b h2 h3

/-- The first result: the body's output with a unit axis in the middle. -/
def outV (c : Dev nD) : FVec F S128x1x1024 .f32 := broadcastInDim S128x1x1024 ![0, 2] bcast_S128x1024_S128x1x1024_0_2 (Gout (argsOf m c))

theorem after_out (c : Dev nD) : StableHlo.after (List.flatten [hostOps1]) (VL m c) (Proc.devRef .tc main_v11) = outV m c := by
  have e : VL m c (Proc.devRef .tc main_v10_0) = Gout (argsOf m c) := (made_at m c main_v10_0 (by decide) (by decide)).trans (GV_out m c)
  generalize VL m c = σ at e ⊢
  simp only [hostOps1, List.flatten_cons, List.flatten_nil, List.append_nil]
  after_results_simp
  rw [e]; rfl

/-- The results of the run, and its arguments. -/
theorem results_main : θ_run defs (onTc (τ := τ) (main (F := F))) ⟨m, fun _ => 0, ρ⟩ (fun r => ∀ c : Dev nD,
      r.2.mem ((c.tc : Thread nD τ).loc main_v11) = outV m c
      ∧ r.2.mem ((c.tc : Thread nD τ).loc main_v10_1) = Gnh (argsOf m c)
      ∧ r.2.mem ((c.tc : Thread nD τ).loc main_v10_2) = Gnc (argsOf m c)
      ∧ ArgsKept m r.2.mem c) :=
  (θ_run _ _ _).mono (fun r h c => ⟨(h.1 c main_v11 (Pipeline.mem_restRefs_of main_v11 (by decide) (by decide))).trans (after_out m c),
      ((h.1 c main_v10_1 (Pipeline.mem_restRefs_of main_v10_1 (by decide) (by decide))).trans
        (after_made m c main_v10_1 (by decide) (by decide) (by decide))).trans (GV_nh m c),
      ((h.1 c main_v10_2 (Pipeline.mem_restRefs_of main_v10_2 (by decide) (by decide))).trans
        (after_made m c main_v10_2 (by decide) (by decide) (by decide))).trans (GV_nc m c), h.2.1 c⟩) (run_kept m ρ)

end Cert.Proof.KernelIdeal

end
-- ==== Proof.ReferenceIdealModel.lean ====
/-
  The reference's results by stages: the gates, the cell, the hidden state and the pick by the mask of one layer, as plain
  functions of arrays, and what each is at an index.
-/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.Proof.ReferenceIdeal

open Cert.ReferenceIdeal Cert.ReferenceIdeal.Gen
open Idealize.ShloMosaic Idealize.ShloMosaic.TcCoe

variable {F : FTy → Type} [FloatOps F]

/-- The four gates side by side, before their squashing. -/
def gatesR (x h : FVec F S128x1024 .f32) (wi wh : FVec F S4096x1024 .f32) (b b' : FVec F S4096 .f32) : FVec F S128x4096 .f32 :=
  addf (addf (addf (Host.dotGeneral dot_S128x1024_S1024x4096_S128x4096_1_0_0_1_n_n none x (transpose S1024x4096 [1, 0] wi transposes_S4096x1024_S1024x4096_1_0))
      (Host.dotGeneral dot_S128x1024_S1024x4096_S128x4096_1_0_0_1_n_n none h (transpose S1024x4096 [1, 0] wh transposes_S4096x1024_S1024x4096_1_0)))
    (broadcastInDim S128x4096 ![0, 1] bcast_S1x4096_S128x4096_0_1 (broadcastInDim S1x4096 ![1] bcast_S4096_S1x4096_1 b)))
    (broadcastInDim S128x4096 ![0, 1] bcast_S1x4096_S128x4096_0_1 (broadcastInDim S1x4096 ![1] bcast_S4096_S1x4096_1 b'))

/-- One over one plus the exponential of the negation. -/
def sigR (v : FVec F S128x1024 .f32) : FVec F S128x1024 .f32 :=
  Host.divf (broadcastInDim S128x1024 ![] bcast_S_S128x1024 (constant S_ .f32 0x3F800000#32))
    (addf (broadcastInDim S128x1024 ![] bcast_S_S128x1024 (constant S_ .f32 0x3F800000#32)) (Host.exp (Host.negf v)))

/-- The new cell of the gates and the old cell. -/
def cellR (g : FVec F S128x4096 .f32) (c : FVec F S128x1024 .f32) : FVec F S128x1024 .f32 :=
  addf (mulf (sigR (extractStridedSlice S128x1024 ![0, 1024] g slices_S128x4096_S128x1024_0_1024)) c)
    (mulf (sigR (extractStridedSlice S128x1024 ![0, 0] g slices_S128x4096_S128x1024_0_0))
      (Host.tanh (extractStridedSlice S128x1024 ![0, 2048] g slices_S128x4096_S128x1024_0_2048)))
/-- The new hidden state of the gates and the old cell. -/
def hidR (g : FVec F S128x4096 .f32) (c : FVec F S128x1024 .f32) : FVec F S128x1024 .f32 :=
  mulf (sigR (extractStridedSlice S128x1024 ![0, 3072] g slices_S128x4096_S128x1024_0_3072)) (Host.tanh (cellR g c))

/-- Where the mask is positive, in every column. -/
def maskR (a : IVec S128 32) : IVec S128x1024 1 :=
  broadcastInDim S128x1024 ![0, 1] bcast_S128x1_S128x1024_0_1 (broadcastInDim S128x1 ![0] bcast_S128_S128x1_0
    (cmpi .sgt a (broadcastInDim S128 ![] bcast_S_S128 (constantI S_ 32 0#32))))

/-- The two layers of a stack of states, and two arrays stacked. -/
def layer0R (s : FVec F S2x128x1024 .f32) : FVec F S128x1024 .f32 :=
  shapeCast S128x1024 (extractStridedSlice S1x128x1024 ![0, 0, 0] s slices_S2x128x1024_S1x128x1024_0_0_0) shapeCasts_S1x128x1024_S128x1024
def layer1R (s : FVec F S2x128x1024 .f32) : FVec F S128x1024 .f32 :=
  shapeCast S128x1024 (extractStridedSlice S1x128x1024 ![1, 0, 0] s slices_S2x128x1024_S1x128x1024_1_0_0) shapeCasts_S1x128x1024_S128x1024
def stackR (u v : FVec F S128x1024 .f32) : FVec F S2x128x1024 .f32 :=
  concatenate S2x128x1024 0 [⟨S1x128x1024, broadcastInDim S1x128x1024 ![1, 2] bcast_S128x1024_S1x128x1024_1_2 u⟩,
    ⟨S1x128x1024, broadcastInDim S1x128x1024 ![1, 2] bcast_S128x1024_S1x128x1024_1_2 v⟩] concatenates_S1x128x1024_S1x128x1024_S2x128x1024_d0

variable (m : (ℓ : Loc nD τ sig) → Buf (Elt F) ℓ) (c : Dev nD)

/-- The gates of the first layer and its hidden state, and the gates of the second. -/
def g0R : FVec F S128x4096 .f32 :=
  gatesR (shapeCast S128x1024 (m ((c.tc : Thread nD τ).loc main_arg0)) shapeCasts_S128x1x1024_S128x1024) (layer0R (m ((c.tc : Thread nD τ).loc main_arg2)))
    (m ((c.tc : Thread nD τ).loc main_arg4)) (m ((c.tc : Thread nD τ).loc main_arg5)) (m ((c.tc : Thread nD τ).loc main_arg6)) (m ((c.tc : Thread nD τ).loc main_arg7))
def h0R : FVec F S128x1024 .f32 := hidR (g0R m c) (layer0R (m ((c.tc : Thread nD τ).loc main_arg3)))
def g1R : FVec F S128x4096 .f32 :=
  gatesR (h0R m c) (layer1R (m ((c.tc : Thread nD τ).loc main_arg2)))
    (m ((c.tc : Thread nD τ).loc main_arg8)) (m ((c.tc : Thread nD τ).loc main_arg9)) (m ((c.tc : Thread nD τ).loc main_arg10)) (m ((c.tc : Thread nD τ).loc main_arg11))
def h1R : FVec F S128x1024 .f32 := hidR (g1R m c) (layer1R (m ((c.tc : Thread nD τ).loc main_arg3)))

theorem res_out (m : (ℓ : Loc nD τ sig) → Buf (Elt F) ℓ) (c : Dev nD) : Value.res_out0 m c
    = broadcastInDim S128x1x1024 ![0, 2] bcast_S128x1024_S128x1x1024_0_2 (select (maskR (m ((c.tc : Thread nD τ).loc main_arg1))) (h1R m c)
        (broadcastInDim S128x1024 ![] bcast_S_S128x1024 (constant S_ .f32 0x00000000#32))) := by
  unfold Value.res_out0 Value.res_main_v92; rfl
theorem res_nh (m : (ℓ : Loc nD τ sig) → Buf (Elt F) ℓ) (c : Dev nD) : Value.res_out1 m c
    = stackR (select (maskR (m ((c.tc : Thread nD τ).loc main_arg1))) (h0R m c) (layer0R (m ((c.tc : Thread nD τ).loc main_arg2))))
        (select (maskR (m ((c.tc : Thread nD τ).loc main_arg1))) (h1R m c) (layer1R (m ((c.tc : Thread nD τ).loc main_arg2)))) := by
  unfold Value.res_out1 Value.res_main_v101; rfl
theorem res_nc (m : (ℓ : Loc nD τ sig) → Buf (Elt F) ℓ) (c : Dev nD) : Value.res_out2 m c
    = stackR (select (maskR (m ((c.tc : Thread nD τ).loc main_arg1))) (cellR (g0R m c) (layer0R (m ((c.tc : Thread nD τ).loc main_arg3)))) (layer0R (m ((c.tc : Thread nD τ).loc main_arg3))))
        (select (maskR (m ((c.tc : Thread nD τ).loc main_arg1))) (cellR (g1R m c) (layer1R (m ((c.tc : Thread nD τ).loc main_arg3)))) (layer1R (m ((c.tc : Thread nD τ).loc main_arg3)))) := by
  unfold Value.res_out2 Value.res_main_v110; rfl

end Cert.Proof.ReferenceIdeal

end
-- ==== Proof.ReferenceIdealValue.lean ====
/-
  What the reference's stages are at an index, over the extended reals.
-/
module

public import proofs.«01_k».proof.Proof.ReferenceIdealModel

@[expose] public section

set_option maxRecDepth 16384

noncomputable section

namespace Cert.Proof.ReferenceIdeal

open Cert.ReferenceIdeal Cert.ReferenceIdeal.Gen
open Idealize.ShloMosaic Idealize.ShloMosaic.TcCoe

theorem gatesR_apply (x h : FVec Ideal S128x1024 .f32) (wi wh : FVec Ideal S4096x1024 .f32) (b b' : FVec Ideal S4096 .f32) (r : Fin 128) (n : Fin 4096) :
    gatesR x h wi wh b b' (ix2 r n)
      = (((∑ k : Fin 1024, x (ix2 r k) * wi (ix2 n k)) + ∑ k : Fin 1024, h (ix2 r k) * wh (ix2 n k)) + b (ix1 n)) + b' (ix1 n) := by
  pointwise [gatesR]

theorem sigR_apply (v : FVec Ideal S128x1024 .f32) (r : Fin 128) (n : Fin 1024) : sigR v (ix2 r n) = Ideal.logistic (v (ix2 r n)) := by
  pointwise [sigR]
  simp [Ideal.logistic]

theorem cellR_apply (g : FVec Ideal S128x4096 .f32) (c : FVec Ideal S128x1024 .f32) (r : Fin 128) (n : Fin 1024) :
    cellR g c (ix2 r n) = Ideal.logistic (g (ix2 r ⟨1024 + n.val, by omega⟩)) * c (ix2 r n)
      + Ideal.logistic (g (ix2 r ⟨n.val, by omega⟩)) * Ideal.tanh (g (ix2 r ⟨2048 + n.val, by omega⟩)) := by
  pointwise [cellR, sigR_apply]

theorem hidR_apply (g : FVec Ideal S128x4096 .f32) (c : FVec Ideal S128x1024 .f32) (r : Fin 128) (n : Fin 1024) :
    hidR g c (ix2 r n) = Ideal.logistic (g (ix2 r ⟨3072 + n.val, by omega⟩)) * Ideal.tanh (cellR g c (ix2 r n)) := by
  pointwise [hidR, sigR_apply]

theorem maskR_apply (a : IVec S128 32) (r : Fin 128) (n : Fin 1024) :
    maskR a (ix2 r n) = IntOp.cmpi .sgt (a (ix1 r)) 0#32 := by
  pointwise [maskR]

theorem layer0R_apply (s : FVec Ideal S2x128x1024 .f32) (r : Fin 128) (n : Fin 1024) : layer0R s (ix2 r n) = s (ix3 0 r n) := by
  pointwise [layer0R]
theorem layer1R_apply (s : FVec Ideal S2x128x1024 .f32) (r : Fin 128) (n : Fin 1024) : layer1R s (ix2 r n) = s (ix3 1 r n) := by
  pointwise [layer1R]
theorem stackR_zero (u v : FVec Ideal S128x1024 .f32) (r : Fin 128) (n : Fin 1024) : stackR u v (ix3 0 r n) = u (ix2 r n) := by
  pointwise [stackR]
theorem stackR_one (u v : FVec Ideal S128x1024 .f32) (r : Fin 128) (n : Fin 1024) : stackR u v (ix3 1 r n) = v (ix2 r n) := by
  pointwise [stackR]

theorem lead_apply (x : FVec Ideal S128x1x1024 .f32) (r : Fin 128) (n : Fin 1024) :
    shapeCast S128x1024 x shapeCasts_S128x1x1024_S128x1024 (ix2 r n) = x (ix3 r 0 n) := by
  pointwise

end Cert.Proof.ReferenceIdeal

end
-- ==== Proof.KernelIdealAlgebraic.lean ====
/-
  The kernel's results are the reference's over the reals: at every index of each of the three, from arguments that agree.
-/
module

public import proofs.«01_k».proof.Proof.KernelIdealArgs
public import proofs.«01_k».proof.Proof.KernelIdealResults
public import proofs.«01_k».proof.Proof.ReferenceIdealValue

@[expose] public section

set_option maxRecDepth 16384

noncomputable section

namespace Cert.Proof.Algebraic

open Cert.KernelIdeal Cert.KernelIdeal.Gen
open Cert.Proof.KernelIdeal Cert.Proof.ReferenceIdeal
open Idealize.ShloMosaic Idealize.ShloMosaic.TcCoe

/-! ## One layer -/

section
variable (A : Args Ideal) (X : FVec Ideal S128x1024 .f32) (l : Fin 2)
variable (x h cc : FVec Ideal S128x1024 .f32) (wi wh : FVec Ideal S4096x1024 .f32) (b b' : FVec Ideal S4096 .f32)

/-- The layer's gates before their squashing: each product commuted, the two biases added one after the other. -/
theorem pre_eq (hx : ∀ r k, X (ix2 r k) = x (ix2 r k)) (hh : ∀ r k, A.h0 (ix3 l r k) = h (ix2 r k)) (hwi : A.wi l = wi) (hwh : A.wh l = wh)
    (hb : ∀ n, A.bi (ix2 l n) = b (ix1 n) + b' (ix1 n)) (r : Fin 128) (n : Fin 4096) :
    preK A X l r n = gatesR x h wi wh b b' (ix2 r n) := by
  rw [gatesR_apply, preK, hwi, hwh, hb, add_assoc _ (b (ix1 n))]
  congr 1
  congr 1
  · exact Finset.sum_congr rfl fun k _ => by rw [hx, mul_comm]
  · exact Finset.sum_congr rfl fun k _ => by rw [hh, mul_comm]

variable (g : FVec Ideal Cert.ReferenceIdeal.S128x4096 .f32)

/-- Its cell and its hidden state, of gates that agree. -/
theorem cell_eq (hg : ∀ r n, preK A X l r n = g (ix2 r n)) (hc : ∀ r n, A.c0 (ix3 l r n) = cc (ix2 r n)) (r : Fin 128) (n : Fin 1024) :
    cellK A X l r n = cellR g cc (ix2 r n) := by
  rw [cellR_apply, cellK]; simp only [hg, hc]
theorem hid_eq (hg : ∀ r n, preK A X l r n = g (ix2 r n)) (hc : ∀ r n, A.c0 (ix3 l r n) = cc (ix2 r n)) (r : Fin 128) (n : Fin 1024) :
    hidK A X l r n = hidR g cc (ix2 r n) := by
  rw [hidR_apply, hidK, cell_eq A X l cc g hg hc]; simp only [hg]

end

/-! ## The two layers -/

/-- The arguments agree at core `c`. -/
abbrev Agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)
  ∧ m' ((c.tc : Thread Cert.ReferenceIdeal.nD Cert.ReferenceIdeal.τ).loc Cert.ReferenceIdeal.main_arg8) = m ((c.tc : Thread nD τ).loc main_arg8)
  ∧ m' ((c.tc : Thread Cert.ReferenceIdeal.nD Cert.ReferenceIdeal.τ).loc Cert.ReferenceIdeal.main_arg9) = m ((c.tc : Thread nD τ).loc main_arg9)
  ∧ m' ((c.tc : Thread Cert.ReferenceIdeal.nD Cert.ReferenceIdeal.τ).loc Cert.ReferenceIdeal.main_arg10) = m ((c.tc : Thread nD τ).loc main_arg10)
  ∧ m' ((c.tc : Thread Cert.ReferenceIdeal.nD Cert.ReferenceIdeal.τ).loc Cert.ReferenceIdeal.main_arg11) = m ((c.tc : Thread nD τ).loc main_arg11)

section
variable (m : (ℓ : Loc nD τ sig) → Buf (Elt Ideal) ℓ)
variable (m' : (ℓ : Loc Cert.ReferenceIdeal.nD Cert.ReferenceIdeal.τ Cert.ReferenceIdeal.sig) → Buf (Elt Ideal) ℓ)
variable (c : Dev nD) (hag : Agree m m' c)
include hag

theorem xt_eq (r : Fin 128) (k : Fin 1024) :
    (argsOf m c).xt (ix2 r k) = shapeCast Cert.ReferenceIdeal.S128x1024 (m' ((c.tc : Thread Cert.ReferenceIdeal.nD Cert.ReferenceIdeal.τ).loc Cert.ReferenceIdeal.main_arg0)) Cert.ReferenceIdeal.Gen.shapeCasts_S128x1x1024_S128x1024 (ix2 r k) := by
  rw [hag.1]; exact (args_xt m c r k).trans (lead_apply _ r k).symm
theorem h_eq0 (r : Fin 128) (k : Fin 1024) : (argsOf m c).h0 (ix3 0 r k) = layer0R (F := Ideal) (m' ((c.tc : Thread Cert.ReferenceIdeal.nD Cert.ReferenceIdeal.τ).loc Cert.ReferenceIdeal.main_arg2)) (ix2 r k) := by
  rw [hag.2.2.1]; exact (args_h0 m c 0 r k).trans (layer0R_apply _ r k).symm
theorem h_eq1 (r : Fin 128) (k : Fin 1024) : (argsOf m c).h0 (ix3 1 r k) = layer1R (F := Ideal) (m' ((c.tc : Thread Cert.ReferenceIdeal.nD Cert.ReferenceIdeal.τ).loc Cert.ReferenceIdeal.main_arg2)) (ix2 r k) := by
  rw [hag.2.2.1]; exact (args_h0 m c 1 r k).trans (layer1R_apply _ r k).symm
theorem c_eq0 (r : Fin 128) (k : Fin 1024) : (argsOf m c).c0 (ix3 0 r k) = layer0R (F := Ideal) (m' ((c.tc : Thread Cert.ReferenceIdeal.nD Cert.ReferenceIdeal.τ).loc Cert.ReferenceIdeal.main_arg3)) (ix2 r k) := by
  rw [hag.2.2.2.1]; exact (args_c0 m c 0 r k).trans (layer0R_apply _ r k).symm
theorem c_eq1 (r : Fin 128) (k : Fin 1024) : (argsOf m c).c0 (ix3 1 r k) = layer1R (F := Ideal) (m' ((c.tc : Thread Cert.ReferenceIdeal.nD Cert.ReferenceIdeal.τ).loc Cert.ReferenceIdeal.main_arg3)) (ix2 r k) := by
  rw [hag.2.2.2.1]; exact (args_c0 m c 1 r k).trans (layer1R_apply _ r k).symm
theorem bit_eq (r : Fin 128) (n : Fin 1024) : bitK (argsOf m c) r = maskR (m' ((c.tc : Thread Cert.ReferenceIdeal.nD Cert.ReferenceIdeal.τ).loc Cert.ReferenceIdeal.main_arg1)) (ix2 r n) := by
  rw [hag.2.1]; exact (args_bit m c r).trans (maskR_apply _ r n).symm

/-- The first layer: its gates and its hidden state, -/
theorem pre0_eq (r : Fin 128) (n : Fin 4096) : preK (argsOf m c) (argsOf m c).xt 0 r n = g0R m' c (ix2 r n) := by
  obtain ⟨-, -, -, -, e4, e5, e6, e7, -⟩ := id hag
  exact pre_eq (argsOf m c) _ 0 _ _ _ _ _ _ (xt_eq m m' c hag) (h_eq0 m m' c hag) ((args_wi0 m c).trans e4.symm) ((args_wh0 m c).trans e5.symm)
    (fun n => by rw [e6, e7]; exact args_bi m c 0 n) r n
theorem hid0_eq (r : Fin 128) (n : Fin 1024) : hidK (argsOf m c) (argsOf m c).xt 0 r n = h0R m' c (ix2 r n) :=
  hid_eq (argsOf m c) _ 0 _ _ (pre0_eq m m' c hag) (c_eq0 m m' c hag) r n

/-- and the second, of the first's. -/
theorem pre1_eq (r : Fin 128) (n : Fin 4096) : preK (argsOf m c) (h1v (argsOf m c)) 1 r n = g1R m' c (ix2 r n) := by
  obtain ⟨-, -, -, -, -, -, -, -, e8, e9, e10, e11⟩ := id hag
  exact pre_eq (argsOf m c) _ 1 _ _ _ _ _ _ (fun r k => (h1v_apply _ r k).trans (hid0_eq m m' c hag r k)) (h_eq1 m m' c hag)
    ((args_wi1 m c).trans e8.symm) ((args_wh1 m c).trans e9.symm)
    (fun n => by rw [e10, e11]; exact args_bi m c 1 n) r n
theorem hid1_eq (r : Fin 128) (n : Fin 1024) : hidK (argsOf m c) (h1v (argsOf m c)) 1 r n = h1R m' c (ix2 r n) :=
  hid_eq (argsOf m c) _ 1 _ _ (pre1_eq m m' c hag) (c_eq1 m m' c hag) r n

/-! ## The three results -/

theorem out_eq : Cert.ReferenceIdeal.Value.res_out0 m' c = outV m c := by
  rw [res_out]
  refine congrArg (fun z : FVec Ideal S128x1024 .f32 => broadcastInDim S128x1x1024 ![0, 2] bcast_S128x1024_S128x1x1024_0_2 z) (funext fun i => ?_)
  obtain ⟨r, n, rfl⟩ : ∃ (r : Fin 128) (n : Fin 1024), i = ix2 r n := ⟨i 0, i 1, eq_ix2 i⟩
  rw [Gout_apply, bit_eq m m' c hag r n, hid1_eq m m' c hag r n]
  pointwise

theorem nh_eq : Cert.ReferenceIdeal.Value.res_out1 m' c = Gnh (argsOf m c) := by
  rw [res_nh]
  refine funext fun i => ?_
  obtain ⟨l, r, n, rfl⟩ : ∃ (l : Fin 2) (r : Fin 128) (n : Fin 1024), i = ix3 l r n := ⟨i 0, i 1, i 2, eq_ix3 i⟩
  have h : l = 0 ∨ l = 1 := by omega
  rcases h with rfl | rfl
  · rw [stackR_zero, Gnh_apply, bit_eq m m' c hag r n, h_eq0 m m' c hag]
    exact congrArg (fun z => Scalar.select _ z _) (hid0_eq m m' c hag r n).symm
  · rw [stackR_one, Gnh_apply, bit_eq m m' c hag r n, h_eq1 m m' c hag]
    exact congrArg (fun z => Scalar.select _ z _) (hid1_eq m m' c hag r n).symm

theorem nc_eq : Cert.ReferenceIdeal.Value.res_out2 m' c = Gnc (argsOf m c) := by
  rw [res_nc]
  refine funext fun i => ?_
  obtain ⟨l, r, n, rfl⟩ : ∃ (l : Fin 2) (r : Fin 128) (n : Fin 1024), i = ix3 l r n := ⟨i 0, i 1, i 2, eq_ix3 i⟩
  have h : l = 0 ∨ l = 1 := by omega
  rcases h with rfl | rfl
  · rw [stackR_zero, Gnc_apply, bit_eq m m' c hag r n, c_eq0 m m' c hag]
    exact congrArg (fun z => Scalar.select _ z _) (cell_eq (argsOf m c) _ 0 _ _ (pre0_eq m m' c hag) (c_eq0 m m' c hag) r n).symm
  · rw [stackR_one, Gnc_apply, bit_eq m m' c hag r n, c_eq1 m m' c hag]
    exact congrArg (fun z => Scalar.select _ z _) (cell_eq (argsOf m c) _ 1 _ _ (pre1_eq m m' c hag) (c_eq1 m m' c hag) r n).symm

end

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.KernelIdealAlgebraic
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference keeps its arguments; it has no semaphore. -/
theorem reference_frame : Cert.quiescent_ReferenceIdeal (hReferenceIdeal := Cert.ReferenceIdeal.Gen.facts) := fun m ρ _ =>
  (θ_run _ _ _).mono (fun r h => ⟨fun c => (h c).2.2.2, sem_eq_zero_of_no_sems (by decide) r.2⟩) (Cert.ReferenceIdeal.Value.run m ρ)

/-- Over the reals the kernel's three results are the reference's: both runs end with the kernel's. -/
theorem same_results : Cert.algebraic_KernelIdeal_ReferenceIdeal
    (hKernelIdeal := Cert.KernelIdeal.Gen.facts) (hReferenceIdeal := Cert.ReferenceIdeal.Gen.facts) := fun m ρ m' ρ' _ hag =>
  ⟨fun c => Cert.Proof.KernelIdeal.outV m c, fun c => Cert.Proof.KernelIdeal.Gnh (Cert.Proof.KernelIdeal.argsOf m c),
    fun c => Cert.Proof.KernelIdeal.Gnc (Cert.Proof.KernelIdeal.argsOf m c),
    Cert.Proof.KernelIdeal.results_main m ρ,
    (θ_run _ _ _).mono (fun _ h c => ⟨(h c).1.trans (Algebraic.out_eq m m' c (hag c)), (h c).2.1.trans (Algebraic.nh_eq m m' c (hag c)),
      (h c).2.2.1.trans (Algebraic.nc_eq m m' c (hag c)), (h c).2.2.2⟩) (Cert.ReferenceIdeal.Value.run m' ρ')⟩

theorem claim : Cert.Claim := ⟨Cert.Kernel.Gen.facts, Cert.KernelIdeal.Gen.facts, Cert.ReferenceIdeal.Gen.facts,
  Kernel.frame_words, fun m ρ _ => Cert.Proof.KernelIdeal.frame_main m ρ, reference_frame, trivial, same_results⟩

end Cert.Proof

end
